-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S131072x128 : Shape := ⟨2, ![131072, 128]⟩
abbrev S131072 : Shape := ⟨1, ![131072]⟩
abbrev S127 : Shape := ⟨1, ![127]⟩
abbrev S_ : Shape := ⟨0, ![]⟩

class Facts : Prop where
  bcast_S_S131072x128 : S_.BroadcastsInDim S131072x128 (![] : Fin 0 → Fin S131072x128.rank)
  bcast_S_S131072 : S_.BroadcastsInDim S131072 (![] : Fin 0 → Fin S131072.rank)

variable [Facts]

def fn {F : FTy → Type} [FloatOps F] (main_arg0 : FVec F S131072x128 .f32) (main_arg1 : IVec S131072 32) (main_arg2 : FVec F S131072 .f32) (main_arg3 : FVec F S127 .f32) : IVec S131072x128 1 × IVec S131072 1 × IVec S131072 1 × IVec S127 1 :=
  let main_cst : FVec F S_ .f32 := constant S_ .f32 0x41F00000#32
  let main_v0 : FVec F S131072x128 .f32 := broadcastInDim S131072x128 ![] bcast_S_S131072x128 main_cst
  let main_v1 : IVec S131072x128 1 := cmpf .ole main_arg0 main_v0
  let main_c : IVec S_ 32 := constantI S_ 32 0#32
  let main_v2 : IVec S131072 32 := broadcastInDim S131072 ![] bcast_S_S131072 main_c
  let main_v3 : IVec S131072 1 := cmpi .sge main_arg1 main_v2
  let main_c_0 : IVec S_ 32 := constantI S_ 32 1#32
  let main_v4 : IVec S131072 32 := broadcastInDim S131072 ![] bcast_S_S131072 main_c_0
  let main_v5 : IVec S131072 1 := cmpi .sle main_arg1 main_v4
  let main_v6 : IVec S131072 1 := andi main_v3 main_v5
  let main_cst_1 : FVec F S_ .f32 := constant S_ .f32 0xFF800000#32
  let main_v7 : FVec F S131072 .f32 := broadcastInDim S131072 ![] bcast_S_S131072 main_cst_1
  let main_v8 : IVec S131072 1 := cmpf .ogt main_arg2 main_v7
  let main_cst_2 : FVec F S_ .f32 := constant S_ .f32 0x4EFFFFFF#32
  let main_v9 : FVec F S131072 .f32 := broadcastInDim S131072 ![] bcast_S_S131072 main_cst_2
  let main_v10 : IVec S131072 1 := cmpf .ole main_arg2 main_v9
  let main_v11 : IVec S131072 1 := andi main_v8 main_v10
  let main_v12 : IVec S127 32 := iotaInDim S127 32 0
  let main_v13 : FVec F S127 .f32 := sitofp .f32 main_v12
  let main_v14 : IVec S127 1 := cmpf .oeq main_arg3 main_v13
  (main_v1, main_v6, main_v11, main_v14)
-- ==== Kernel.lean ====
abbrev S131072x128 : Shape := ⟨2, ![131072, 128]⟩
abbrev S131072 : Shape := ⟨1, ![131072]⟩
abbrev S127 : Shape := ⟨1, ![127]⟩
abbrev S1 : Shape := ⟨1, ![1]⟩
abbrev S128 : Shape := ⟨1, ![128]⟩
abbrev S1x128 : Shape := ⟨2, ![1, 128]⟩
abbrev S1024x128 : Shape := ⟨2, ![1024, 128]⟩
abbrev S128x1024 : Shape := ⟨2, ![128, 1024]⟩
abbrev S1x1 : Shape := ⟨2, ![1, 1]⟩
abbrev S16384x128 : Shape := ⟨2, ![16384, 128]⟩
abbrev S128x128 : Shape := ⟨2, ![128, 128]⟩
abbrev S128x1 : Shape := ⟨2, ![128, 1]⟩
abbrev S1x128x128 : Shape := ⟨3, ![1, 128, 128]⟩
abbrev S1x1x1 : Shape := ⟨3, ![1, 1, 1]⟩
abbrev S16777216 : Shape := ⟨1, ![16777216]⟩
abbrev S32x16 : Shape := ⟨2, ![32, 16]⟩
abbrev S4096 : Shape := ⟨1, ![4096]⟩
abbrev S16 : Shape := ⟨1, ![16]⟩
abbrev S32 : Shape := ⟨1, ![32]⟩
abbrev S_ : Shape := ⟨0, ![]⟩
abbrev S1x16 : Shape := ⟨2, ![1, 16]⟩

abbrev nBuf : Table → Nat
  | .hbm => 20
  | .local .tc .vmem => 6
  | .local .scVector .vmem => 5
  | _ => 0

abbrev bufTy : (tb : Table) → Fin (nBuf tb) → BufTy
  | .hbm, ⟨0, _⟩ => ⟨S131072x128, .f32⟩
  | .hbm, ⟨1, _⟩ => ⟨S131072, .i32⟩
  | .hbm, ⟨2, _⟩ => ⟨S131072, .f32⟩
  | .hbm, ⟨3, _⟩ => ⟨S127, .f32⟩
  | .hbm, ⟨4, _⟩ => ⟨S1, .f32⟩
  | .hbm, ⟨5, _⟩ => ⟨S131072, .f32⟩
  | .hbm, ⟨6, _⟩ => ⟨S1, .f32⟩
  | .hbm, ⟨7, _⟩ => ⟨S128, .f32⟩
  | .hbm, ⟨8, _⟩ => ⟨S1x128, .f32⟩
  | .hbm, ⟨9, _⟩ => ⟨S1024x128, .f32⟩
  | .hbm, ⟨10, _⟩ => ⟨S128x1024, .f32⟩
  | .hbm, ⟨11, _⟩ => ⟨S1x1, .f32⟩
  | .hbm, ⟨12, _⟩ => ⟨S16777216, .f32⟩
  | .hbm, ⟨13, _⟩ => ⟨S32x16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S16384x128, .f32⟩
  | .local .tc .vmem, ⟨1, _⟩ => ⟨S16384x128, .f32⟩
  | .local .tc .vmem, ⟨2, _⟩ => ⟨S128x128, .f32⟩
  | .local .tc .vmem, ⟨3, _⟩ => ⟨S128x128, .f32⟩
  | .local .tc .vmem, ⟨4, _⟩ => ⟨S1x128, .f32⟩
  | .local .tc .vmem, ⟨5, _⟩ => ⟨S1x1, .f32⟩
  | .local .scVector .vmem, ⟨0, _⟩ => ⟨S4096, .f32⟩
  | .local .scVector .vmem, ⟨1, _⟩ => ⟨S4096, .f32⟩
  | .local .scVector .vmem, ⟨2, _⟩ => ⟨S4096, .i32⟩
  | .local .scVector .vmem, ⟨3, _⟩ => ⟨S4096, .f32⟩
  | .local .scVector .vmem, ⟨4, _⟩ => ⟨S16, .f32⟩
  | _, _ => ⟨S131072x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | _ => false

abbrev sig : RefSig :=
  ofTables nBuf rfl bufTy 4 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v7_scv : Ref sig .scVector := ⟨.hbm, 12, rfl⟩
abbrev main_arg2_scv : Ref sig .scVector := ⟨.hbm, 2, rfl⟩
abbrev main_v0_scv : Ref sig .scVector := ⟨.hbm, 5, rfl⟩
abbrev main_v8_scv : Ref sig .scVector := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2275_r2 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x128 : Shape := ⟨2, ![131072, 128]⟩
abbrev S131072 : Shape := ⟨1, ![131072]⟩
abbrev S127 : Shape := ⟨1, ![127]⟩
abbrev S1x127 : Shape := ⟨2, ![1, 127]⟩
abbrev S131072x1 : Shape := ⟨2, ![131072, 1]⟩
abbrev S131072x127 : Shape := ⟨2, ![131072, 127]⟩
abbrev S_ : Shape := ⟨0, ![]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 151
  | .vmem => 0
  | .smem => 0
  | _ => 0

abbrev hbmTy0_0 (i : Nat) : BufTy := match i % 128 with
  | 0 => ⟨S131072x128, .f32⟩
  | 1 => ⟨S131072, .i32⟩
  | 2 => ⟨S131072, .f32⟩
  | 3 => ⟨S127, .f32⟩
  | 4 => ⟨S1x127, .f32⟩
  | 5 => ⟨S131072x1, .f32⟩
  | 6 => ⟨S131072x127, .f32⟩
  | 7 => ⟨S131072x127, .f32⟩
  | 8 => ⟨S131072x127, .i1⟩
  | 9 => ⟨S131072x127, .i32⟩
  | 10 => ⟨S_, .i32⟩
  | 11 => ⟨S131072, .i32⟩
  | 12 => ⟨S_, .i32⟩
  | 13 => ⟨S_, .i32⟩
  | 14 => ⟨S_, .i32⟩
  | 15 => ⟨S131072, .i32⟩
  | 16 => ⟨S131072, .i32⟩
  | 17 => ⟨S_, .i32⟩
  | 18 => ⟨S131072, .i32⟩
  | 19 => ⟨S131072, .i32⟩
  | 20 => ⟨S131072x128, .f32⟩
  | 21 => ⟨S_, .f32⟩
  | 22 => ⟨S131072x128, .f32⟩
  | 23 => ⟨S131072x128, .f32⟩
  | 24 => ⟨S131072x128, .f32⟩
  | 25 => ⟨S131072x128, .f32⟩
  | 26 => ⟨S131072x128, .i1⟩
  | 27 => ⟨S131072x128, .f32⟩
  | 28 => ⟨S131072x128, .f32⟩
  | 29 => ⟨S131072x128, .f32⟩
  | 30 => ⟨S131072x128, .f32⟩
  | 31 => ⟨S131072x128, .f32⟩
  | 32 => ⟨S131072x128, .f32⟩
  | 33 => ⟨S131072x128, .f32⟩
  | 34 => ⟨S131072x128, .f32⟩
  | 35 => ⟨S131072x128, .f32⟩
  | 36 => ⟨S131072x128, .f32⟩
  | 37 => ⟨S131072x128, .f32⟩
  | 38 => ⟨S_, .f32⟩
  | 39 => ⟨S131072x128, .f32⟩
  | 40 => ⟨S131072x128, .f32⟩
  | 41 => ⟨S131072x128, .f32⟩
  | 42 => ⟨S131072x128, .f32⟩
  | 43 => ⟨S131072x128, .i1⟩
  | 44 => ⟨S131072x128, .f32⟩
  | 45 => ⟨S131072x128, .f32⟩
  | 46 => ⟨S131072x128, .f32⟩
  | 47 => ⟨S131072x128, .f32⟩
  | 48 => ⟨S131072x128, .f32⟩
  | 49 => ⟨S131072x128, .f32⟩
  | 50 => ⟨S131072x128, .f32⟩
  | 51 => ⟨S131072x128, .f32⟩
  | 52 => ⟨S131072x128, .f32⟩
  | 53 => ⟨S_, .f32⟩
  | 54 => ⟨S_, .f32⟩
  | 55 => ⟨S131072x128, .f32⟩
  | 56 => ⟨S131072x1, .i32⟩
  | 57 => ⟨S_, .i32⟩
  | 58 => ⟨S131072x1, .i32⟩
  | 59 => ⟨S131072x1, .i1⟩
  | 60 => ⟨S_, .i32⟩
  | 61 => ⟨S131072x1, .i32⟩
  | 62 => ⟨S131072x1, .i32⟩
  | 63 => ⟨S131072x1, .i32⟩
  | 64 => ⟨S131072x1x1, .i32⟩
  | 65 => ⟨S1, .i32⟩
  | 66 => ⟨S_, .i32⟩
  | 67 => ⟨S131072x1x1, .i32⟩
  | 68 => ⟨S131072x1x1, .i1⟩
  | 69 => ⟨S1x1x1, .i32⟩
  | 70 => ⟨S131072x1x1, .i32⟩
  | 71 => ⟨S131072x1x1, .i1⟩
  | 72 => ⟨S131072x1x1, .i1⟩
  | 73 => ⟨S_, .i1⟩
  | 74 => ⟨S131072x1, .i1⟩
  | 75 => ⟨S131072x1, .f32⟩
  | 76 => ⟨S_, .f32⟩
  | 77 => ⟨S131072x1, .f32⟩
  | 78 => ⟨S131072x1, .f32⟩
  | 79 => ⟨S131072, .f32⟩
  | 80 => ⟨S_, .i32⟩
  | 81 => ⟨S131072x1, .i32⟩
  | 82 => ⟨S131072x1, .i1⟩
  | 83 => ⟨S_, .i32⟩
  | 84 => ⟨S131072x1, .i32⟩
  | 85 => ⟨S131072x1, .i32⟩
  | 86 => ⟨S131072x1, .i32⟩
  | 87 => ⟨S131072x1x1, .i32⟩
  | 88 => ⟨S1, .i32⟩
  | 89 => ⟨S_, .i32⟩
  | 90 => ⟨S131072x1x1, .i32⟩
  | 91 => ⟨S131072x1x1, .i1⟩
  | 92 => ⟨S1x1x1, .i32⟩
  | 93 => ⟨S131072x1x1, .i32⟩
  | 94 => ⟨S131072x1x1, .i1⟩
  | 95 => ⟨S131072x1x1, .i1⟩
  | 96 => ⟨S_, .i1⟩
  | 97 => ⟨S131072x1, .i1⟩
  | 98 => ⟨S131072x1, .f32⟩
  | 99 => ⟨S_, .f32⟩
  | 100 => ⟨S131072x1, .f32⟩
  | 101 => ⟨S131072x1, .f32⟩
  | 102 => ⟨S131072, .f32⟩
  | 103 => ⟨S_, .i32⟩
  | 104 => ⟨S131072, .i32⟩
  | 105 => ⟨S131072, .i32⟩
  | 106 => ⟨S_, .i32⟩
  | 107 => ⟨S_, .i32⟩
  | 108 => ⟨S131072, .i32⟩
  | 109 => ⟨S131072, .i32⟩
  | 110 => ⟨S131072x1, .i32⟩
  | 111 => ⟨S_, .i32⟩
  | 112 => ⟨S131072, .i32⟩
  | 113 => ⟨S131072, .i1⟩
  | 114 => ⟨S_, .i32⟩
  | 115 => ⟨S131072x1, .i32⟩
  | 116 => ⟨S131072x1, .i1⟩
  | 117 => ⟨S_, .i32⟩
  | 118 => ⟨S131072x1, .i32⟩
  | 119 => ⟨S131072x1, .i32⟩
  | 120 => ⟨S131072x1, .i32⟩
  | 121 => ⟨S131072x1x1, .i32⟩
  | 122 => ⟨S1, .i32⟩
  | 123 => ⟨S_, .i32⟩
  | 124 => ⟨S131072x1x1, .i32⟩
  | 125 => ⟨S131072x1x1, .i1⟩
  | 126 => ⟨S1x1x1, .i32⟩
  | 127 => ⟨S131072x1x1, .i32⟩
  | _ => ⟨S131072x128, .f32⟩

abbrev hbmTy0_1 (i : Nat) : BufTy := match i % 128 with
  | 0 => ⟨S131072x1x1, .i1⟩
  | 1 => ⟨S131072x1x1, .i1⟩
  | 2 => ⟨S_, .i1⟩
  | 3 => ⟨S131072x1, .i1⟩
  | 4 => ⟨S131072x1, .f32⟩
  | 5 => ⟨S_, .f32⟩
  | 6 => ⟨S131072x1, .f32⟩
  | 7 => ⟨S131072x1, .f32⟩
  | 8 => ⟨S131072, .f32⟩
  | 9 => ⟨S_, .f32⟩
  | 10 => ⟨S131072, .f32⟩
  | 11 => ⟨S131072, .f32⟩
  | 12 => ⟨S_, .i32⟩
  | 13 => ⟨S131072, .i32⟩
  | 14 => ⟨S131072, .i1⟩
  | 15 => ⟨S131072, .f32⟩
  | 16 => ⟨S131072, .f32⟩
  | 17 => ⟨S131072, .f32⟩
  | 18 => ⟨S131072, .f32⟩
  | 19 => ⟨S_, .f32⟩
  | 20 => ⟨S_, .f32⟩
  | 21 => ⟨S_, .f32⟩
  | 22 => ⟨S_, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v8 : Ref sig .tc := ⟨.hbm, 35, rfl⟩
abbrev main_v9 : Ref sig .tc := ⟨.hbm, 36, rfl⟩
abbrev main_call2_v0 : Ref sig .tc := ⟨.hbm, 37, rfl⟩
abbrev main_call2_call0_cst : Ref sig .tc := ⟨.hbm, 38, rfl⟩
abbrev main_call2_call0_v0 : Ref sig .tc := ⟨.hbm, 39, rfl⟩
abbrev main_call2_call0_v1 : Ref sig .tc := ⟨.hbm, 40, rfl⟩
abbrev main_call2_call0_v2 : Ref sig .tc := ⟨.hbm, 41, rfl⟩
abbrev main_call2_call0_v3 : Ref sig .tc := ⟨.hbm, 42, rfl⟩
abbrev main_call2_call0_v4 : Ref sig .tc := ⟨.hbm, 43, rfl⟩
abbrev main_call2_call0_v5 : Ref sig .tc := ⟨.hbm, 44, rfl⟩
abbrev main_call2_call0_v6 : Ref sig .tc := ⟨.hbm, 45, rfl⟩
abbrev main_call2_call0_v7 : Ref sig .tc := ⟨.hbm, 46, rfl⟩
abbrev main_call2_call0_v8 : Ref sig .tc := ⟨.hbm, 47, rfl⟩
abbrev main_call2_call0_v9 : Ref sig .tc := ⟨.hbm, 48, rfl⟩
abbrev main_call2_call0_v10 : Ref sig .tc := ⟨.hbm, 49, rfl⟩
abbrev main_call2_call0_v11 : Ref sig .tc := ⟨.hbm, 50, rfl⟩
abbrev main_call2_v1 : Ref sig .tc := ⟨.hbm, 51, rfl⟩
abbrev main_v10 : Ref sig .tc := ⟨.hbm, 52, rfl⟩
abbrev main_call3_call0_cst : Ref sig .tc := ⟨.hbm, 53, rfl⟩
abbrev main_call3_call0_v0 : Ref sig .tc := ⟨.hbm, 54, rfl⟩
abbrev main_v11 : Ref sig .tc := ⟨.hbm, 55, rfl⟩
abbrev main_v12 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_cst : Ref sig .tc := ⟨.hbm, 76, rfl⟩
abbrev main_call4_v14 : Ref sig .tc := ⟨.hbm, 77, rfl⟩
abbrev main_v13 : Ref sig .tc := ⟨.hbm, 78, rfl⟩
abbrev main_v14 : Ref sig .tc := ⟨.hbm, 79, rfl⟩
abbrev main_call5_c : Ref sig .tc := ⟨.hbm, 80, rfl⟩
abbrev main_call5_v0 : Ref sig .tc := ⟨.hbm, 81, rfl⟩
abbrev main_call5_v1 : Ref sig .tc := ⟨.hbm, 82, rfl⟩
abbrev main_call5_c_0 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_c_1 : Ref sig .tc := ⟨.hbm, 88, rfl⟩
abbrev main_call5_c_2 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_3 : Ref sig .tc := ⟨.hbm, 96, rfl⟩
abbrev main_call5_v12 : Ref sig .tc := ⟨.hbm, 97, rfl⟩
abbrev main_call5_v13 : Ref sig .tc := ⟨.hbm, 98, rfl⟩
abbrev main_call5_cst : Ref sig .tc := ⟨.hbm, 99, rfl⟩
abbrev main_call5_v14 : Ref sig .tc := ⟨.hbm, 100, rfl⟩
abbrev main_v15 : Ref sig .tc := ⟨.hbm, 101, rfl⟩
abbrev main_v16 : Ref sig .tc := ⟨.hbm, 102, rfl⟩
abbrev main_c_2 : Ref sig .tc := ⟨.hbm, 103, rfl⟩
abbrev main_v17 : Ref sig .tc := ⟨.hbm, 104, rfl⟩
abbrev main_v18 : Ref sig .tc := ⟨.hbm, 105, rfl⟩
abbrev main_c_3 : Ref sig .tc := ⟨.hbm, 106, rfl⟩
abbrev main_call6_v0 : Ref sig .tc := ⟨.hbm, 107, rfl⟩
abbrev main_call6_v1 : Ref sig .tc := ⟨.hbm, 108, rfl⟩
abbrev main_v19 : Ref sig .tc := ⟨.hbm, 109, rfl⟩
abbrev main_v20 : Ref sig .tc := ⟨.hbm, 110, rfl⟩
abbrev main_c_4 : Ref sig .tc := ⟨.hbm, 111, rfl⟩
abbrev main_v21 : Ref sig .tc := ⟨.hbm, 112, rfl⟩
abbrev main_v22 : Ref sig .tc := ⟨.hbm, 113, rfl⟩
abbrev main_call7_c : Ref sig .tc := ⟨.hbm, 114, rfl⟩
abbrev main_call7_v0 : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_c_1 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_v8 : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_3 : Ref sig .tc := ⟨.hbm, 130, rfl⟩
abbrev main_call7_v12 : Ref sig .tc := ⟨.hbm, 131, rfl⟩
abbrev main_call7_v13 : Ref sig .tc := ⟨.hbm, 132, rfl⟩
abbrev main_call7_cst : Ref sig .tc := ⟨.hbm, 133, rfl⟩
abbrev main_call7_v14 : Ref sig .tc := ⟨.hbm, 134, rfl⟩
abbrev main_v23 : Ref sig .tc := ⟨.hbm, 135, rfl⟩
abbrev main_v24 : Ref sig .tc := ⟨.hbm, 136, rfl⟩
abbrev main_cst : Ref sig .tc := ⟨.hbm, 137, rfl⟩
abbrev main_v25 : Ref sig .tc := ⟨.hbm, 138, rfl⟩
abbrev main_v26 : Ref sig .tc := ⟨.hbm, 139, rfl⟩
abbrev main_c_5 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_cst_6 : Ref sig .tc := ⟨.hbm, 147, rfl⟩
abbrev main_v33 : Ref sig .tc := ⟨.hbm, 148, rfl⟩
abbrev main_cst_7 : Ref sig .tc := ⟨.hbm, 149, rfl⟩
abbrev main_v34 : Ref sig .tc := ⟨.hbm, 150, rfl⟩

abbrev nD : Nat := 1
abbrev τ : Topo := Topo.v7x

variable {F : FTy → Type} [FloatOps F]
-- ==== Proof.Rolled.lean ====
module
public import proofs.«01_k».proof.KernelIdeal
public import proofs.«01_k».proof.Proof.Gen.KernelIdeal

@[expose] public section

noncomputable section

namespace Cert.Proof.Rolled

open Cert.KernelIdeal Cert.KernelIdeal.Gen
open Idealize.ShloMosaic Idealize.SL.Sem

variable {F : FTy → Type} [FloatOps F]

/-- The programs a vector subcore runs. -/
abbrev TileProg (F : FTy → Type) (i : grid1.Coords) (α : Type) : Type 1 :=
  Prog (TpuEff nD τ sig (Elt F) Λ₀ (.scVector ((i 0).castLE hcore1) ((i 1).castLE hsub1))) α

/-- The row number of the tile's first row, as the kernel computes it. -/
def rowBase (i : grid1.Coords) : BitVec 32 :=
  Scalar.muli (Scalar.addi (Scalar.muli (BitVec.ofNat 32 (i 1).val) 2#32) (BitVec.ofNat 32 (i 0).val)) 4096#32

/-- The flat positions of sixteen rows' looked-up elements, from their times `t`: row `base + o + lane`, column the
    rounded-up time clipped to `0 … 127`. -/
def idxVec (v2 : BitVec 32) (o : ℕ) (t : Vec F S16 .f32) : IVec S16 32 :=
  let v4 : FVec F S16 .f32 := shapeCast S16 t shapeCasts_S16_S16
  let v5 : IVec S16 32 := fptosi 32 v4
  let v6 : FVec F S16 .f32 := sitofp .f32 v5
  let v10 : IVec S16 32 := select (cmpf .ogt v4 v6) (broadcast S16 1#32) (broadcast S16 0#32)
  let v15 : IVec S16 32 := minsi (broadcast S16 127#32) (maxsi (broadcast S16 0#32) (addi v5 v10))
  let v19 : IVec S16 32 := addi (broadcast S16 (Scalar.addi v2 (BitVec.ofNat 32 o))) (iota .scVector S16 32 [0] iota_S16_d0_w32_scVector)
  shapeCast S16 (addi (muli v19 (broadcast S16 128#32)) v15) shapeCasts_S16_S16

/-- One step of the product sum. -/
def accVec (acc : FVec F S16 .f32) (x e : Vec F S16 .f32) : FVec F S16 .f32 :=
  addf acc (mulf (shapeCast S16 x shapeCasts_S16_S16) (shapeCast S16 e shapeCasts_S16_S16))

theorem inb16 {o : ℕ} (h : o + 16 ≤ 4096) : ∀ a, (![o] : Fin 1 → Nat) a + S16.size a ≤ S4096.size a :=
  fun a => by fin_cases a; exact h

theorem inb128 {o : ℕ} (h : o + 128 ≤ 4096) : ∀ a, (![o] : Fin 1 → Nat) a + S128.size a ≤ S4096.size a :=
  fun a => by fin_cases a; exact h

theorem inbSem {n : ℕ} (h : n + 1 ≤ 32) : ∀ a, (![n] : Fin 1 → Nat) a + S1.size a ≤ S32.size a :=
  fun a => by fin_cases a; exact h

section Body

variable {α : Type} (i : grid1.Coords)

/-- Sixteen rows' positions computed and stored at offset `o`, then `K`. -/
def idxStep (arg6 : Memref sig .scVector .vmem S4096 .f32) (arg8 : Memref sig .scVector .vmem S4096 .i32) (v2 : BitVec 32)
    (o : ℕ) (h : o + 16 ≤ 4096) (K : TileProg F i α) : TileProg F i α :=
  .op (.load arg6 (Rect.unit (s := S4096) ![o] S16.size (inb16 h)).toLoadRect (View.loadsAt_vmem h_S16)) fun (t : Vec F S16 .f32) =>
  .op (.load arg8 (Rect.unit (s := S4096) ![o] S16.size (inb16 h)).toLoadRect (View.loadsAt_vmem h_S16)) fun (_ : Vec F S16 .i32) =>
  .op (.store arg8 (Rect.unit (s := S4096) ![o] S16.size (inb16 h)) (idxVec v2 o t) Finset.univ (View.stores_vmem_bits_univ h_S16 rfl) (.inl rfl)) fun _ => K

/-- The first `j` vectors of a chunk at offset `b`, then `K`. -/
def idxSteps (arg6 : Memref sig .scVector .vmem S4096 .f32) (arg8 : Memref sig .scVector .vmem S4096 .i32) (v2 : BitVec 32)
    (b : ℕ) : (j : ℕ) → b + 16 * j ≤ 4096 → TileProg F i α → TileProg F i α
  | 0, _, K => K
  | j + 1, h, K => idxSteps arg6 arg8 v2 b j (by omega) (idxStep i arg6 arg8 v2 (b + 16 * j) (by omega) K)

/-- The semaphore of chunk `n`. -/
def chunkSem (arg11 : DmaSems sig S32) (n : ℕ) (h : n + 1 ≤ 32) : DmaSem sig :=
  ((arg11.slice (Rect.unit (s := S32) ![n] S1.size (inbSem h))).squeeze S_ squeezes_S1_S_).sem

/-- Chunk `n` of a 4096-element array in the tile's memory. -/
abbrev chunkRef {e : EltTy} (m : Memref sig .scVector .vmem S4096 e) (n : ℕ) (h : n + 1 ≤ 32) : Memref sig .scVector .vmem S128 e :=
  m.slice (Rect.unit (s := S4096) ![128 * n] S128.size (inb128 (by omega))) (fun _ => rfl)

/-- The indexed array as the copies name it. -/
abbrev srcRef (arg2 : Memref sig .scVector .hbm S16777216 .f32) : Memref sig .scVector .hbm S16777216 .f32 :=
  arg2.slice (Rect.unit (s := S16777216) ![0] S16777216.size inb_S16777216_S16777216_0) (fun _ => rfl)

/-- Chunk `n`'s positions computed and its indirect copy issued, then `K`. -/
def issueChunk (arg2 : Memref sig .scVector .hbm S16777216 .f32) (arg6 : Memref sig .scVector .vmem S4096 .f32)
    (arg8 : Memref sig .scVector .vmem S4096 .i32) (arg9 : Memref sig .scVector .vmem S4096 .f32) (arg11 : DmaSems sig S32)
    (v2 : BitVec 32) (n : ℕ) (h : n + 1 ≤ 32) (K : TileProg F i α) : TileProg F i α :=
  idxSteps i arg6 arg8 v2 (128 * n) 8 (by omega)
    (SparseCore.enqueueIndirectGather rfl (srcRef arg2) (chunkRef arg9 n h) gathers_S16777216_S128 (chunkRef arg8 n h) rfl
      (chunkSem arg11 n h) (View.wordExact_bits rfl) rfl (Or.inl rfl) >>= fun _ => K)

/-- The first `n` chunks issued, then `K`. -/
def issueChunks (arg2 : Memref sig .scVector .hbm S16777216 .f32) (arg6 : Memref sig .scVector .vmem S4096 .f32)
    (arg8 : Memref sig .scVector .vmem S4096 .i32) (arg9 : Memref sig .scVector .vmem S4096 .f32) (arg11 : DmaSems sig S32)
    (v2 : BitVec 32) : (n : ℕ) → n ≤ 32 → TileProg F i α → TileProg F i α
  | 0, _, K => K
  | n + 1, h, K => issueChunks arg2 arg6 arg8 arg9 arg11 v2 n (by omega) (issueChunk i arg2 arg6 arg8 arg9 arg11 v2 n h K)

/-- The first `j` vectors of a landed chunk at offset `b` multiplied by the events and added, then `K` of the sum. -/
def accSteps (arg7 arg9 : Memref sig .scVector .vmem S4096 .f32) (b : ℕ) (acc : FVec F S16 .f32) :
    (j : ℕ) → b + 16 * j ≤ 4096 → (FVec F S16 .f32 → TileProg F i α) → TileProg F i α
  | 0, _, K => K acc
  | j + 1, h, K => accSteps arg7 arg9 b acc j (by omega) fun acc =>
      .op (.load arg9 (Rect.unit (s := S4096) ![b + 16 * j] S16.size (inb16 (by omega))).toLoadRect (View.loadsAt_vmem h_S16)) fun (x : Vec F S16 .f32) =>
      .op (.load arg7 (Rect.unit (s := S4096) ![b + 16 * j] S16.size (inb16 (by omega))).toLoadRect (View.loadsAt_vmem h_S16)) fun (e : Vec F S16 .f32) =>
      K (accVec acc x e)

/-- Chunk `n` waited for and summed, then `K` of the sum. -/
def sumChunk (arg2 : Memref sig .scVector .hbm S16777216 .f32) (arg7 arg9 : Memref sig .scVector .vmem S4096 .f32) (arg11 : DmaSems sig S32)
    (n : ℕ) (h : n + 1 ≤ 32) (acc : FVec F S16 .f32) (K : FVec F S16 .f32 → TileProg F i α) : TileProg F i α :=
  .op (.waitDma2 (chunkSem arg11 n h) (srcRef arg2) (chunkRef arg9 n h) (View.wordExact_bits rfl) (View.wordExact_bits rfl)) fun _ =>
  accSteps i arg7 arg9 (128 * n) acc 8 (by omega) K

/-- The first `n` chunks waited for and summed, then `K` of the sum. -/
def sumChunks (arg2 : Memref sig .scVector .hbm S16777216 .f32) (arg7 arg9 : Memref sig .scVector .vmem S4096 .f32) (arg11 : DmaSems sig S32)
    (acc : FVec F S16 .f32) : (n : ℕ) → n ≤ 32 → (FVec F S16 .f32 → TileProg F i α) → TileProg F i α
  | 0, _, K => K acc
  | n + 1, h, K => sumChunks arg2 arg7 arg9 arg11 acc n (by omega) fun acc => sumChunk i arg2 arg7 arg9 arg11 n h acc K

/-- The tile's rows of a 131072-element array. -/
abbrev rowsRef (m : Memref sig .scVector .hbm S131072 .f32) : Memref sig .scVector .hbm S4096 .f32 :=
  m.slice (Rect.unit (s := S131072) (k1_off1 i) S4096.size (k1_off1_inb i)) (fun _ => rfl)

/-- The tile's row of the result. -/
abbrev outRef (arg5 : Memref sig .scVector .hbm S32x16 .f32) : Memref sig .scVector .hbm S16 .f32 :=
  (arg5.slice (Rect.unit (s := S32x16) (k1_off2 i) S1x16.size (k1_off2_inb i)) (fun _ => rfl)).squeeze S16 squeezes_S1x16_S16

/-- The tile's program with its repetitions as recursions. -/
def body (arg2 : Memref sig .scVector .hbm S16777216 .f32) (arg3 arg4 : Memref sig .scVector .hbm S131072 .f32)
    (arg5 : Memref sig .scVector .hbm S32x16 .f32) (arg6 : Memref sig .scVector .vmem S4096 .f32) (harg6 : arg6.IsWhole)
    (arg7 : Memref sig .scVector .vmem S4096 .f32) (harg7 : arg7.IsWhole)
    (arg8 : Memref sig .scVector .vmem S4096 .i32) (arg9 : Memref sig .scVector .vmem S4096 .f32)
    (arg10 : Memref sig .scVector .vmem S16 .f32) (harg10 : arg10.IsWhole) (arg11 : DmaSems sig S32) (r0 r1 r2 : DmaSems sig S_) :
    TileProg F i PUnit :=
  .op (.enqueueDma (rowsRef i arg3) (.here arg6) (.dma r0.sem) (View.wordExact_bits rfl) harg6.wordExact ⟨Or.inl rfl, trivial⟩) fun _ =>
  .op (.waitDma2 r0.sem (rowsRef i arg3) arg6 (View.wordExact_bits rfl) harg6.wordExact) fun _ =>
  .op (.enqueueDma (rowsRef i arg4) (.here arg7) (.dma r1.sem) (View.wordExact_bits rfl) harg7.wordExact ⟨Or.inl rfl, trivial⟩) fun _ =>
  .op (.waitDma2 r1.sem (rowsRef i arg4) arg7 (View.wordExact_bits rfl) harg7.wordExact) fun _ =>
  issueChunks i arg2 arg6 arg8 arg9 arg11 (rowBase i) 32 le_rfl <|
  sumChunks i arg2 arg7 arg9 arg11 (broadcast S16 (Scalar.ofBits .f32 0x00000000#32)) 32 le_rfl fun acc =>
  .op (.load arg10 (Rect.unit (s := S16) ![0] S16.size inb_S16_S16_0).toLoadRect (View.loadsAt_vmem h_S16)) fun (_ : Vec F S16 .f32) =>
  .op (.store arg10 (Rect.unit (s := S16) ![0] S16.size inb_S16_S16_0) (shapeCast S16 acc shapeCasts_S16_S16) Finset.univ (View.stores_vmem_bits_univ h_S16 rfl) (.inl rfl)) fun _ =>
  .op (.enqueueDma arg10 (.here (outRef i arg5)) (.dma r2.sem) harg10.wordExact ((View.wordExact_bits rfl).reshape _ _) ⟨Or.inl rfl, trivial⟩) fun _ =>
  .op (.waitDma2 r2.sem arg10 (outRef i arg5) harg10.wordExact ((View.wordExact_bits rfl).reshape _ _)) fun _ =>
  .ret ⟨⟩

end Body

set_option maxRecDepth 100000 in
set_option maxHeartbeats 0 in
/-- The printed body is the program with its repetitions as recursions. -/
theorem sc_body_eq (i : grid1.Coords) (arg2 : Memref sig .scVector .hbm S16777216 .f32) (harg2 : arg2.IsWhole) (arg3 : Memref sig .scVector .hbm S131072 .f32) (harg3 : arg3.IsWhole) (arg4 : Memref sig .scVector .hbm S131072 .f32) (harg4 : arg4.IsWhole) (arg5 : Memref sig .scVector .hbm S32x16 .f32) (harg5 : arg5.IsWhole) (arg6 : Memref sig .scVector .vmem S4096 .f32) (harg6 : arg6.IsWhole) (arg7 : Memref sig .scVector .vmem S4096 .f32) (harg7 : arg7.IsWhole) (arg8 : Memref sig .scVector .vmem S4096 .i32) (harg8 : arg8.IsWhole) (arg9 : Memref sig .scVector .vmem S4096 .f32) (harg9 : arg9.IsWhole) (arg10 : Memref sig .scVector .vmem S16 .f32) (harg10 : arg10.IsWhole) (arg11 : DmaSems sig S32) (r0 r1 r2 : DmaSems sig S_) :
    cc1__sc_body (F := F) i arg2 harg2 arg3 harg3 arg4 harg4 arg5 harg5 arg6 harg6 arg7 harg7 arg8 harg8 arg9 harg9 arg10 harg10 arg11 r0 r1 r2
      = body i arg2 arg3 arg4 arg5 arg6 harg6 arg7 harg7 arg8 arg9 arg10 harg10 arg11 r0 r1 r2 := rfl

/-! ## The TensorCore body -/

section Tc

theorem inbRows {c : ℕ} (h : c + 1 ≤ 128) : ∀ a, (![128 * c, 0] : Fin 2 → Nat) a + S128x128.size a ≤ S16384x128.size a :=
  Fin.forall_fin_two.mpr ⟨(by omega : 128 * c + 128 ≤ 16384), (by decide : 0 + 128 ≤ 128)⟩

theorem slicesCol {c : ℕ} (h : c + 1 ≤ 128) : S128x128.Slices ![0, c] S128x1 :=
  ⟨rfl, Fin.forall_fin_two.mpr ⟨(by decide : 0 + 128 ≤ 128), (by omega : c + 1 ≤ 128)⟩⟩

/-- One block of 128 rows `x` added into the running sums: the softplus of the elements whose lower edge is below the
    row's time, the others taken at minus infinity. `es` holds the lower edges, column `c` of `tt` the rows' times. -/
def tcCell (es : Vec F S1x128 .f32) (tt : Vec F S128x128 .f32) (c : ℕ) (h : c + 1 ≤ 128) (acc : FVec F S128x128 .f32)
    (x : Vec F S128x128 .f32) : FVec F S128x128 .f32 :=
  addf acc (log1p (exp (minimumf (select
    (cmpf .olt (broadcastTo S128x128 (shapeCast S1x128 es shapeCasts_S1x128_S1x128) broadcasts_S1x128_S128x128)
      (broadcastTo S128x128 (extractStridedSlice S128x1 ![0, c] (shapeCast S128x128 tt shapeCasts_S128x128_S128x128) (slicesCol h)) broadcasts_S128x1_S128x128))
    x (broadcast S128x128 (Scalar.ofBits .f32 0xFF800000#32))) (broadcast S128x128 (Scalar.ofBits .f32 0x41F00000#32)))))

/-- The running sums collapsed to one number. -/
def tcTotal (acc : FVec F S128x128 .f32) : FVec F S1x1 .f32 :=
  broadcast S1x1 (extractAt ![0, 0, 0] (shapeCast S1x1x1 (multiReduction .add [1, 2] S1 (shapeCast S1x128x128 acc shapeCasts_S128x128_S1x128x128)
    0x00000000#32 reduces_S1x128x128_S1 (.inl rfl) rfl) shapeCasts_S1_S1x1x1) inpos_S1x1x1_p0_0_0)

/-- The first `n` blocks loaded and added, then `K` of the sums. -/
def tcBlocks {α : Type} (arg1 : Memref sig .tc .vmem S16384x128 .f32) (es : Vec F S1x128 .f32) (tt : Vec F S128x128 .f32) (acc : FVec F S128x128 .f32) :
    (n : ℕ) → n ≤ 128 → (FVec F S128x128 .f32 → Prog (TpuEff nD τ sig (Elt F) Λ₀ .tc) α) → Prog (TpuEff nD τ sig (Elt F) Λ₀ .tc) α
  | 0, _, K => K acc
  | n + 1, h, K => tcBlocks arg1 es tt acc n (by omega) fun acc =>
      .op (.load arg1 (Rect.unit (s := S16384x128) ![128 * n, 0] S128x128.size (inbRows h)).toLoadRect (View.loadsAt_vmem h_S128x128)) fun (x : Vec F S128x128 .f32) =>
      K (tcCell es tt n h acc x)

/-- The kernel's test for the first grid point. -/
def tcFirst (i : grid0.Coords) : BitVec 1 := Scalar.cmpi .ne (Scalar.extui (Scalar.cmpi .eq (BitVec.ofNat 32 (i 0).val) 0#32) : BitVec 32) 0#32

/-- The block's total added to the output. -/
def tcAdd (arg4 : Memref sig .tc .vmem S1x1 .f32) (v : FVec F S1x1 .f32) : Prog (TpuEff nD τ sig (Elt F) Λ₀ .tc) PUnit :=
  .op (.load arg4 (Rect.unit (s := S1x1) ![0, 0] S1x1.size inb_S1x1_S1x1_0_0).toLoadRect (View.loadsAt_vmem h_S1x1)) fun (o : Vec F S1x1 .f32) =>
  .op (.load arg4 (Rect.unit (s := S1x1) ![0, 0] S1x1.size inb_S1x1_S1x1_0_0).toLoadRect (View.loadsAt_vmem h_S1x1)) fun (_ : Vec F S1x1 .f32) =>
  .op (.store arg4 (Rect.unit (s := S1x1) ![0, 0] S1x1.size inb_S1x1_S1x1_0_0) (addf (shapeCast S1x1 o shapeCasts_S1x1_S1x1) v) Finset.univ (View.stores_vmem_bits_univ h_S1x1 rfl) (.inl rfl)) fun _ =>
  .ret ⟨⟩

/-- The TensorCore body with its repetition as a recursion. -/
def tcBody (i : grid0.Coords) (arg1 : Memref sig .tc .vmem S16384x128 .f32) (arg2 : Memref sig .tc .vmem S128x128 .f32)
    (arg3 : Memref sig .tc .vmem S1x128 .f32) (arg4 : Memref sig .tc .vmem S1x1 .f32) : Prog (TpuEff nD τ sig (Elt F) Λ₀ .tc) PUnit :=
  .op (.load arg3 (Rect.unit (s := S1x128) ![0, 0] S1x128.size inb_S1x128_S1x128_0_0).toLoadRect (View.loadsAt_vmem h_S1x128)) fun (es : Vec F S1x128 .f32) =>
  .op (.load arg2 (Rect.unit (s := S128x128) ![0, 0] S128x128.size inb_S128x128_S128x128_0_0).toLoadRect (View.loadsAt_vmem h_S128x128)) fun (tt : Vec F S128x128 .f32) =>
  tcBlocks arg1 es tt (broadcast S128x128 (Scalar.ofBits .f32 0x00000000#32)) 128 le_rfl fun acc =>
  if _h : tcFirst i = 1#1 then
    .op (.load arg4 (Rect.unit (s := S1x1) ![0, 0] S1x1.size inb_S1x1_S1x1_0_0).toLoadRect (View.loadsAt_vmem h_S1x1)) fun (_ : Vec F S1x1 .f32) =>
    .op (.store arg4 (Rect.unit (s := S1x1) ![0, 0] S1x1.size inb_S1x1_S1x1_0_0) (broadcast S1x1 (Scalar.ofBits .f32 0x00000000#32)) Finset.univ (View.stores_vmem_bits_univ h_S1x1 rfl) (.inl rfl)) fun _ =>
    tcAdd arg4 (tcTotal acc)
  else tcAdd arg4 (tcTotal acc)

set_option maxRecDepth 100000 in
set_option maxHeartbeats 0 in
/-- The printed TensorCore body is the program with its repetition as a recursion. -/
theorem tc_body_eq (i : grid0.Coords) (arg1 : Memref sig .tc .vmem S16384x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) :
    cc0__tc_body (F := F) i arg1 harg1 arg2 harg2 arg3 harg3 arg4 harg4 = tcBody i arg1 arg2 arg3 arg4 := rfl

end Tc

end Cert.Proof.Rolled
-- ==== Proof.Base.lean ====
module
public import proofs.«01_k».proof.Defs
public import proofs.«01_k».proof.Proof.Rolled
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdxCore
public import proofs.«01_k».proof.Proof.Gen.KernelIdeal
public import proofs.«01_k».proof.Proof.Gen.KernelIdeal.Launch
public import proofs.«01_k».proof.Proof.Gen.KernelIdeal.Points

@[expose] public section

noncomputable section

namespace Cert.Proof.Base

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof.Base
-- ==== Proof.TcRegion.lean ====
module
public import proofs.«01_k».proof.Proof.Base
public import Idealize.ShloMosaic.Lib.Pipeline.RegionArraysS
public import Idealize.ShloMosaic.Lib.Pipeline.Value
public import Idealize.ShloMosaic.Lib.Pipeline.FrameBody

@[expose] public section

noncomputable section

namespace Cert.Proof.TcRegion

open Cert.KernelIdeal Cert.KernelIdeal.Gen Cert.Proof.Base Cert.Proof.Rolled
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Loads and stores of a memref held at what it reads -/

section Access

variable (d : Dev nD) {α : Type} {s : Shape} {e : EltTy} (m : Memref sig .tc .vmem s e) (r : Rect s)

/-- A memref held on the TensorCore at what it reads. -/
abbrev own (x : s.Idx → Elt F e) : sProp 𝕄 := owns (Ix := HIx 1) (Name := ℕ) (U := UU) (Lvl := ℕ) (d.tc : Thread nD τ) m fullShare x

theorem access_sub : (m.access r).set ⊆ m.view.set := by
  rw [View.set_slice]; unfold View.set; exact Finset.map_subset_map.mpr (Finset.subset_univ _)

/-- A load of a held memref reads what it holds at the rectangle. -/
theorem wp_load_own {Q : α → sProp 𝕄} (x : s.Idx → Elt F e) (hl : m.view.LoadsAt r.toLoadRect)
    (k : (r.shape.Idx → Elt F e) → Prog (TpuEff nD τ sig (Elt F) Λ₀ .tc) α) :
    (own d m x : sProp 𝕄) ⊢ iprop((own d m x -∗ wp frame (wpE (defs₀ (F := F)) 𝒱₀ (d.tc : Thread nD τ) none) Set.univ (k fun y => x (r.emb y)) Q)
      -∗ wp frame (wpE (defs₀ (F := F)) 𝒱₀ (d.tc : Thread nD τ) none) Set.univ (.op (.load m r.toLoadRect hl) k) Q) := by
  have hS := access_sub m r
  unfold own owns
  iintro ⟨%f, %hf, H⟩ Hk
  iapply (wp_load_rect (m := m) (r := r) 𝒱₀ (d.tc : Thread nD τ) none Set.univ hS) $$ H
  iintro H
  have e : ((m.access r).read (Elt F) f : r.shape.Idx → Elt F e) = fun y => x (r.emb y) := by
    rw [← hf]; rfl
  rw [e]
  iapply Hk
  iexists f; isplitr; · ipureintro; exact hf
  iexact H

/-- A store over the whole of a held memref leaves it at what was stored. -/
theorem wp_store_own {Q : α → sProp 𝕄} (x : s.Idx → Elt F e) (w : r.shape.Idx → Elt F e) (z : s.Idx → Elt F e)
    (hw : ∀ y, ∃ y', r.emb y' = y ∧ z y = w y')
    (hs : (m.access r).Stores Finset.univ) (hm) (k : PUnit → Prog (TpuEff nD τ sig (Elt F) Λ₀ .tc) α) :
    (own d m x : sProp 𝕄) ⊢ iprop((own d m z -∗ wp frame (wpE (defs₀ (F := F)) 𝒱₀ (d.tc : Thread nD τ) none) Set.univ (k ⟨⟩) Q)
      -∗ wp frame (wpE (defs₀ (F := F)) 𝒱₀ (d.tc : Thread nD τ) none) Set.univ (.op (.store m r w Finset.univ hs hm) k) Q) := by
  have hS : (m.access r).setOn Finset.univ ⊆ m.view.set := access_sub m r
  unfold own owns
  iintro ⟨%f, -, H⟩ Hk
  iapply (wp_store (m := m) (r := r) 𝒱₀ (d.tc : Thread nD τ) none Set.univ hS) $$ H
  iintro H
  iapply Hk
  iexists _; isplitr; swap; · iexact H
  ipureintro
  funext y
  obtain ⟨y', rfl, hz⟩ := hw y
  rw [hz]
  exact View.read_slice_write_emb (v := m.view) r f w (Finset.mem_univ _)

end Access

/-! ## The body -/

/-- Rows `[128 n, 128 (n + 1))` of a block. -/
def rowsOf (x : Vec F S16384x128 .f32) (n : ℕ) (h : n + 1 ≤ 128) : Vec F S128x128 .f32 :=
  fun y => x ((Rect.unit (s := S16384x128) ![128 * n, 0] S128x128.size (inbRows h)).emb y)

/-- The running sums after the first `n` blocks of 128 rows. -/
def sums (x : Vec F S16384x128 .f32) (es : Vec F S1x128 .f32) (tt : Vec F S128x128 .f32) : (n : ℕ) → n ≤ 128 → FVec F S128x128 .f32
  | 0, _ => broadcast S128x128 (Scalar.ofBits .f32 0x00000000#32)
  | n + 1, h => tcCell es tt n h (sums x es tt n (by omega)) (rowsOf x n h)

/-- What one grid point adds. -/
def gain (x : Vec F S16384x128 .f32) (tt : Vec F S128x128 .f32) (es : Vec F S1x128 .f32) : FVec F S1x1 .f32 := tcTotal (sums x es tt 128 le_rfl)

/-- What the output is before a grid point's addition: zero at the first point. -/
def start (i : grid0.Coords) (o : Vec F S1x1 .f32) : Vec F S1x1 .f32 :=
  if tcFirst i = 1#1 then broadcast S1x1 (Scalar.ofBits .f32 0x00000000#32) else o

/-- The output after a grid point. -/
def next (i : grid0.Coords) (x : Vec F S16384x128 .f32) (tt : Vec F S128x128 .f32) (es : Vec F S1x128 .f32) (o : Vec F S1x1 .f32) : Vec F S1x1 .f32 :=
  addf (start i o) (gain x tt es)

theorem emb_zero {s : Shape} (off : Fin s.rank → ℕ) (h0 : ∀ a, off a = 0) (inb : ∀ a, off a + s.size a ≤ s.size a) (y : s.Idx) :
    (Rect.unit (s := s) off s.size inb).emb y = y := by
  funext a; apply Fin.ext
  show off a + 1 * (y a).val = (y a).val
  rw [h0]; omega

section Body

variable (d : Dev nD) {α : Type} (M1 : Memref sig .tc .vmem S16384x128 .f32)

theorem wp_blocks {Q : α → sProp 𝕄} (x : Vec F S16384x128 .f32) (es : Vec F S1x128 .f32) (tt : Vec F S128x128 .f32) (n : ℕ) :
    ∀ (h : n ≤ 128) (K : FVec F S128x128 .f32 → Prog (TpuEff nD τ sig (Elt F) Λ₀ .tc) α),
    (own d M1 x : sProp 𝕄) ⊢ iprop((own d M1 x -∗ wp frame (wpE (defs₀ (F := F)) 𝒱₀ (d.tc : Thread nD τ) none) Set.univ (K (sums x es tt n h)) Q)
      -∗ wp frame (wpE (defs₀ (F := F)) 𝒱₀ (d.tc : Thread nD τ) none) Set.univ
          (tcBlocks M1 es tt (broadcast S128x128 (Scalar.ofBits .f32 0x00000000#32)) n h K) Q) := by
  induction n with
  | zero => intro h K; iintro H Hk; iapply Hk; iexact H
  | succ n ih =>
    intro h K
    have hn : n ≤ 128 := by omega
    show (own d M1 x : sProp 𝕄) ⊢ iprop((own d M1 x -∗ wp frame (wpE (defs₀ (F := F)) 𝒱₀ (d.tc : Thread nD τ) none) Set.univ (K (sums x es tt (n + 1) h)) Q)
      -∗ wp frame (wpE (defs₀ (F := F)) 𝒱₀ (d.tc : Thread nD τ) none) Set.univ
          (tcBlocks M1 es tt (broadcast S128x128 (Scalar.ofBits .f32 0x00000000#32)) n hn fun acc =>
            .op (.load M1 (Rect.unit (s := S16384x128) ![128 * n, 0] S128x128.size (inbRows h)).toLoadRect (View.loadsAt_vmem h_S128x128)) fun (x : Vec F S128x128 .f32) =>
              K (tcCell es tt n h acc x)) Q)
    iintro H Hk
    iapply (ih hn _) $$ H
    iintro H
    iapply (wp_load_own d M1 (Rect.unit (s := S16384x128) ![128 * n, 0] S128x128.size (inbRows h)) x (View.loadsAt_vmem h_S128x128)
      (fun (v : Vec F S128x128 .f32) => K (tcCell es tt n h (sums x es tt n hn) v))) $$ H
    iexact Hk

/-- Adding to the output. -/
theorem wp_add (M4 : Memref sig .tc .vmem S1x1 .f32) {Q : PUnit → sProp 𝕄} (o v : Vec F S1x1 .f32) :
    (own d M4 o : sProp 𝕄) ⊢ iprop((own d M4 (addf o v) -∗ wp frame (wpE (defs₀ (F := F)) 𝒱₀ (d.tc : Thread nD τ) none) Set.univ (.ret ⟨⟩) Q)
      -∗ wp frame (wpE (defs₀ (F := F)) 𝒱₀ (d.tc : Thread nD τ) none) Set.univ (tcAdd M4 v) Q) := by
  unfold tcAdd
  have he : ∀ y : S1x1.Idx, (Rect.unit (s := S1x1) ![0, 0] S1x1.size inb_S1x1_S1x1_0_0).emb y = y := emb_zero _ (by decide) _
  have hc : (shapeCast S1x1 (fun y => o ((Rect.unit (s := S1x1) ![0, 0] S1x1.size inb_S1x1_S1x1_0_0).emb y)) shapeCasts_S1x1_S1x1 : Vec F S1x1 .f32) = o := by
    rw [show (fun y => o ((Rect.unit (s := S1x1) ![0, 0] S1x1.size inb_S1x1_S1x1_0_0).emb y)) = o from funext fun y => by rw [he]]
    exact Idealize.ShloMosaic.shapeCast_self _ _
  iintro H Hk
  iapply (wp_load_own d M4 (Rect.unit (s := S1x1) ![0, 0] S1x1.size inb_S1x1_S1x1_0_0) o (View.loadsAt_vmem h_S1x1) _) $$ H
  iintro H
  iapply (wp_load_own d M4 (Rect.unit (s := S1x1) ![0, 0] S1x1.size inb_S1x1_S1x1_0_0) o (View.loadsAt_vmem h_S1x1) _) $$ H
  iintro H
  iapply (wp_store_own d M4 (Rect.unit (s := S1x1) ![0, 0] S1x1.size inb_S1x1_S1x1_0_0) o
    (addf (shapeCast S1x1 (fun y => o ((Rect.unit (s := S1x1) ![0, 0] S1x1.size inb_S1x1_S1x1_0_0).emb y)) shapeCasts_S1x1_S1x1) v)
    (addf o v) (fun y => ⟨y, he y, by rw [hc]⟩) _ _ _) $$ H
  iexact Hk

/-- The body: the inputs are left as they were, the output after the point's addition. -/
theorem body_wp (i : grid0.Coords) (M2 : Memref sig .tc .vmem S128x128 .f32) (M3 : Memref sig .tc .vmem S1x128 .f32) (M4 : Memref sig .tc .vmem S1x1 .f32)
    {Q : PUnit → sProp 𝕄} (x : Vec F S16384x128 .f32) (tt : Vec F S128x128 .f32) (es : Vec F S1x128 .f32) (o : Vec F S1x1 .f32) :
    iprop(own d M1 x ∗ own d M2 tt ∗ own d M3 es ∗ own d M4 o) ⊢ iprop(
      (iprop(own d M1 x ∗ own d M2 tt ∗ own d M3 es ∗ own d M4 (next i x tt es o)) -∗ Q ⟨⟩)
      -∗ wp frame (wpE (defs₀ (F := F)) 𝒱₀ (d.tc : Thread nD τ) none) Set.univ (tcBody i M1 M2 M3 M4) Q) := by
  have e3 : (fun y => es ((Rect.unit (s := S1x128) ![0, 0] S1x128.size inb_S1x128_S1x128_0_0).emb y)) = es :=
    funext fun y => congrArg es (emb_zero _ (by decide) _ y)
  have e2 : (fun y => tt ((Rect.unit (s := S128x128) ![0, 0] S128x128.size inb_S128x128_S128x128_0_0).emb y)) = tt :=
    funext fun y => congrArg tt (emb_zero _ (by decide) _ y)
  have he : ∀ y : S1x1.Idx, (Rect.unit (s := S1x1) ![0, 0] S1x1.size inb_S1x1_S1x1_0_0).emb y = y := emb_zero _ (by decide) _
  unfold tcBody
  iintro ⟨H1, H2, H3, H4⟩ Hk
  iapply (wp_load_own d M3 (Rect.unit (s := S1x128) ![0, 0] S1x128.size inb_S1x128_S1x128_0_0) es (View.loadsAt_vmem h_S1x128) _) $$ H3
  iintro H3
  iapply (wp_load_own d M2 (Rect.unit (s := S128x128) ![0, 0] S128x128.size inb_S128x128_S128x128_0_0) tt (View.loadsAt_vmem h_S128x128) _) $$ H2
  iintro H2
  rw [e3, e2]
  iapply (wp_blocks d M1 x es tt 128 le_rfl _) $$ H1
  iintro H1
  by_cases hf : tcFirst i = 1#1
  · rw [dif_pos hf]
    iapply (wp_load_own d M4 (Rect.unit (s := S1x1) ![0, 0] S1x1.size inb_S1x1_S1x1_0_0) o (View.loadsAt_vmem h_S1x1) _) $$ H4
    iintro H4
    iapply (wp_store_own d M4 (Rect.unit (s := S1x1) ![0, 0] S1x1.size inb_S1x1_S1x1_0_0) o
      (broadcast S1x1 (Scalar.ofBits .f32 0x00000000#32)) (start i o) (fun y => ⟨y, he y, by unfold start; rw [if_pos hf]⟩) _ _ _) $$ H4
    iintro H4
    iapply (wp_add d M4 (start i o) (tcTotal (sums x es tt 128 le_rfl))) $$ H4
    iintro H4
    rw [wp_ret]
    imodintro
    iapply Hk
    isplitl [H1]; · iexact H1
    isplitl [H2]; · iexact H2
    isplitl [H3]; · iexact H3
    iexact H4
  · rw [dif_neg hf]
    have hst : start i o = o := by unfold start; rw [if_neg hf]
    iapply (wp_add d M4 o (tcTotal (sums x es tt 128 le_rfl))) $$ H4
    iintro H4
    rw [wp_ret]
    imodintro
    iapply Hk
    isplitl [H1]; · iexact H1
    isplitl [H2]; · iexact H2
    isplitl [H3]; · iexact H3
    unfold next gain; rw [hst]
    iexact H4

end Body

/-! ## The pipeline's proof data -/

section Region

variable (V : Dev nD → Valuation τ sig (Elt F))

/-- Window `w`'s block at point `t`, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (V d (Proc.devRef .tc (Pipeline.arrRef spec0 w)))

/-- The output after the first `n` grid points. -/
def outs (d : Dev nD) : ℕ → Vec F S1x1 .f32
  | 0 => broadcast S1x1 (Scalar.ofBits .f32 0x00000000#32)
  | n + 1 => if h : n < cfg0.N then next (grid0.coords ⟨n, h⟩) (iblk V d 0 ⟨n, h⟩) (iblk V d 1 ⟨n, h⟩) (iblk V d 2 ⟨n, h⟩) (outs d n) else outs d n

theorem outs_succ (d : Dev nD) (t : Fin cfg0.N) :
    outs V d (t.val + 1) = next (grid0.coords t) (iblk V d 0 t) (iblk V d 1 t) (iblk V d 2 t) (outs V d t.val) := by
  show (if h : t.val < cfg0.N then _ else _) = _
  rw [dif_pos t.isLt]

/-- The pairs the TensorCore's waits may have recorded when the region runs. -/
def low (d : Dev nD) : Set (SemLoc sig × HIx 1) := {p | (K (F := F)).lev (T d, p.1) p.2 ≤ 0}

/-- The arrays as the region finds them; each input's buffer left at its block, the output's at the sum so far; the
    SparseCore call's dues owed throughout. -/
def dats (_ : Fin 1) (d : Dev nD) : Pipeline.Dat τ (Elt F) (HIx 1) ℕ UU ℕ cfg0 d where
  A w := V d (Proc.devRef .tc (Pipeline.arrRef spec0 w))
  after w t := match w with
    | ⟨0, _⟩ => iblk V d 0 t
    | ⟨1, _⟩ => iblk V d 1 t
    | ⟨2, _⟩ => iblk V d 2 t
    | ⟨3, _⟩ => outs V d (t.val + 1)
  Φ _ := iprop(emp)
  q _ := fullShare
  owed _ := (K (F := F)).Otc d 0
  recorded _ := low (F := F) d

theorem after0_0 (d : Dev nD) (t : Fin cfg0.N) : (dats V 0 d).after 0 t = iblk V d 0 t := by dsimp only [dats]
theorem after0_1 (d : Dev nD) (t : Fin cfg0.N) : (dats V 0 d).after 1 t = iblk V d 1 t := by dsimp only [dats]
theorem after0_2 (d : Dev nD) (t : Fin cfg0.N) : (dats V 0 d).after 2 t = iblk V d 2 t := by dsimp only [dats]
theorem after0_3 (d : Dev nD) (t : Fin cfg0.N) : (dats V 0 d).after 3 t = outs V d (t.val + 1) := by dsimp only [dats]

theorem before0_0 (d : Dev nD) (t : Fin cfg0.N) (v) : (dats V 0 d).before 0 t v = iblk V d 0 t :=
  ((dats V 0 d).before_in_eq_fetched 0 rfl (fun _ => rfl) (fun _ _ _ => rfl) (fun t => by rw [after0_0]; rfl) t v).trans rfl
theorem before0_1 (d : Dev nD) (t : Fin cfg0.N) (v) : (dats V 0 d).before 1 t v = iblk V d 1 t :=
  ((dats V 0 d).before_in_eq_fetched 1 rfl (fun _ => rfl) (fun _ _ _ => rfl) (fun t => by rw [after0_1]; rfl) t v).trans rfl
theorem before0_2 (d : Dev nD) (t : Fin cfg0.N) (v) : (dats V 0 d).before 2 t v = iblk V d 2 t :=
  ((dats V 0 d).before_in_eq_fetched 2 rfl (fun _ => rfl) (fun _ _ _ => rfl) (fun t => by rw [after0_2]; rfl) t v).trans rfl

theorem first_zero : tcFirst (grid0.coords ⟨0, by rw [N_0]; decide⟩) = 1#1 := by decide

/-- Whatever the output's buffer holds, the addition at a point leaves the sum so far. -/
theorem next_before (d : Dev nD) (t : Fin cfg0.N) (v) :
    next (grid0.coords t) (iblk V d 0 t) (iblk V d 1 t) (iblk V d 2 t) ((dats V 0 d).before 3 t v) = outs V d (t.val + 1) := by
  rw [outs_succ]
  have hN : cfg0.N = 8 := N_0
  by_cases h0 : t.val = 0
  · obtain rfl : t = ⟨0, by rw [hN]; decide⟩ := Fin.ext h0
    unfold next start
    rw [if_pos first_zero, if_pos first_zero]
  · have hfl : (cfg0.win 3).flush ⟨t.val - 1, Nat.lt_of_le_of_lt (Nat.sub_le _ _) t.isLt⟩ = false := by
      rw [← Bool.not_eq_true, flush0_3]
      have := t.isLt
      show ¬ (t.val - 1) % 8 = 7
      omega
    rw [(dats V 0 d).before_out_kept 3 rfl t h0 hfl (fun _ => rfl) (fun _ _ => rfl) v, after0_3]
    show next _ _ _ _ (outs V d (t.val - 1 + 1)) = _
    rw [show t.val - 1 + 1 = t.val by omega]

theorem body_obligation (d : Dev nD) : Pipeline.BodyObligation (dats V 0 d) (defs₀ (F := F)) 𝒱₀ none Set.univ := fun t => by
  rw [bigSep_W0, bigSep_W0]
  sl_whnfR [defs₀, Defs.onTc]
  simp only [before0_0, before0_1, before0_2]
  rw [show (dats V 0 d).Φ t.succ = (dats V 0 d).Φ t.castSucc from rfl,
    show (dats V 0 d).owesAt none t.succ = (dats V 0 d).owesAt none t.castSucc from rfl, after0_0, after0_1, after0_2, after0_3, tc_body_eq]
  iintro ⟨HΦ, Ho, ⟨%d0, H0⟩, ⟨%d1, H1⟩, ⟨%d2, H2⟩, ⟨%d3, H3⟩⟩
  have hn := next_before V d t d3
  iapply (body_wp d (st0_0 t) (grid0.coords t) (st0_1 t) (st0_2 t) (st0_3 t) (iblk V d 0 t) (iblk V d 1 t) (iblk V d 2 t)
    ((dats V 0 d).before 3 t d3)) $$ [H0 H1 H2 H3]
  · isplitl [H0]; · iexact H0
    isplitl [H1]; · iexact H1
    isplitl [H2]; · iexact H2
    iexact H3
  rw [hn]
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The region as a step of the launch -/

abbrev adm : (q : Fin 1) → (pcfgs (F := F) q).Adm := fun q => (cfgs q).toPCfg_adm

/-- The array's contents after the region, every other buffer's as before. -/
def afterTc (d : Dev nD) : Valuation τ sig (Elt F) := Pipeline.afterRegion (dats V 0 d) (V d)

/-- The TensorCore's dues, with no recorded wait above the start of the SparseCore call. -/
def dues (d : Dev nD) : sProp 𝕄 :=
  iprop(∃ W, ⌜(K (F := F)).WBelow (T d) W 0⌝ ∗ owes (T d) ((K (F := F)).Otc d 0) W)

/-- The region: entered with every array held and the launch's dues, left with the output at its sum. -/
def region : Pipeline.RegionSeg (pcfgs (F := F)) adm (dats V) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V d).loose
  hwaits d := Pipeline.cellsWaits_of_cut (Pipeline.pin (pcfgs (F := F)) adm) (dats V) none 0 d (0 : ℕ) ((K (F := F)).Otc d 0) (fun _ => rfl)
    (fun _ _ => Finset.mem_univ _) (fun _ _ => le_rfl) (fun g i h => ⟨Finset.mem_univ _, by have := (K (F := F)).lev_of_Otc_pos h; omega⟩)
  pre d := iprop(StableHlo.held (d.tc : Thread nD τ) (Pipeline.ucRefs τ sig) (V d) ∗ dues (F := F) d)
  post d := iprop(StableHlo.held (d.tc : Thread nD τ) (Pipeline.ucRefs τ sig) (afterTc V d) ∗ dues (F := F) d)
  X _ := iprop(emp)
  Y _ := iprop(emp)
  Z d := StableHlo.held (d.tc : Thread nD τ) (Pipeline.ucRefs τ sig \ Pipeline.arrRefs spec0) (V d)
  hentry d := by
    rw [Pipeline.ownSems0_none, Pipeline.prefHeld_of_none _ rfl,
      StableHlo.held_sub_split (d.tc : Thread nD τ) (Pipeline.arrRefs_sub_ucRefs spec0 launch0.win.arr_unscoped),
      ← Pipeline.arrays_held (pcfgs (F := F)) adm (dats V) 0 launch0.toP d ((dats V 0 d).share_full fun _ => rfl) ((dats V 0 d).arrAt · 0) (V d) (fun _ => rfl)]
    unfold dues
    iintro ⟨⟨⟨Ha, Hz⟩, ⟨%W, %hW, HO⟩⟩, -, -⟩
    imodintro
    isplitl [Ha]; · iexact Ha
    isplitr; · iempintro
    isplitl [HO]
    · unfold Pipeline.Dat.owesAt Pipeline.owesWithin Pipeline.Dat.bound
      iexists W
      isplitr
      · ipureintro; exact fun p hp => Or.inl (hW p hp)
      iexact HO
    isplitr; · iempintro
    iexact Hz
  hin d := by
    rw [Pipeline.prefHeld_of_none _ rfl]
    show iprop(emp ∗ emp ∗ Pipeline.scopedRest spec0 d) ⊢ (iprop(emp) : sProp 𝕄)
    rw [scopedRest0_eq]
    iintro ⟨-, -, Hr⟩
    iexact Hr
  hout d := by
    rw [Pipeline.ownSems0_none]
    show (iprop(emp) : sProp 𝕄) ⊢ iprop(emp ∗ emp ∗ Pipeline.scopedRest spec0 d)
    rw [scopedRest0_eq]
    iintro H
    isplitr; · iempintro
    isplitr; · iempintro
    iexact H
  hexit d := by
    have hh : (StableHlo.held (d.tc : Thread nD τ) (Pipeline.ucRefs τ sig \ Pipeline.arrRefs spec0) (V d) : sProp 𝕄)
        = StableHlo.held (d.tc : Thread nD τ) (Pipeline.ucRefs τ sig \ Pipeline.arrRefs spec0) (afterTc V d) :=
      StableHlo.held_congr _ fun b hb => (Pipeline.afterRegion_off (dats V 0 d) (V d) _ b hb).symm
    rw [StableHlo.held_sub_split (d.tc : Thread nD τ) (Pipeline.arrRefs_sub_ucRefs spec0 launch0.win.arr_unscoped) (afterTc V d), hh,
      ← Pipeline.arrays_held (pcfgs (F := F)) adm (dats V) 0 launch0.toP d ((dats V 0 d).share_full fun _ => rfl) ((dats V 0 d).arrAt · cfg0.N) (afterTc V d)
        (fun w => (Pipeline.afterRegion_arr (dats V 0 d) (V d) launch0.win.arr_inj w).symm)]
    unfold dues
    iintro ⟨Ha, HO, -, Hz⟩
    imodintro
    isplitl [Ha Hz]
    · isplitl [Ha]; · iexact Ha
      iexact Hz
    unfold Pipeline.Dat.owesAt Pipeline.owesWithin Pipeline.Dat.bound
    icases HO with ⟨%W, %hW, HO⟩
    iexists W
    isplitr
    · ipureintro
      intro p hp
      rcases hW hp with h | ⟨w, s, rfl⟩
      · exact h
      · exact le_rfl
    iexact HO

/-- A buffer the region only reads, or does not touch, is as it was. -/
theorem afterTc_keeps (d : Dev nD) (r : Ref sig .tc) (h : ∀ w, Pipeline.arrRef spec0 w = r → (cfg0.win w).isOut = false) :
    afterTc V d (Proc.devRef .tc r) = V d (Proc.devRef .tc r) :=
  Pipeline.afterRegion_keeps (dats V 0 d) (V d) launch0.win.arr_inj (fun _ => rfl) r h

/-- The region's call, in `@main`, after which the rest runs with the output at its sum. -/
theorem wp_region {Q : PUnit → sProp 𝕄} (d : Dev nD) :
    iprop(levAts (K (F := F)).L (K (F := F)).lev ∗ boundary (T d) ∗ StableHlo.held (T d) (Pipeline.ucRefs τ sig) (V d) ∗ dues (F := F) d
        ∗ Pipeline.cellsGhost (Pipeline.pin (pcfgs (F := F)) adm) EP 0 d ∗ Pipeline.toksInit (Pipeline.pin (pcfgs (F := F)) adm) EP 0 d
        ∗ ((boundary (T d) ∗ StableHlo.held (T d) (Pipeline.ucRefs τ sig) (afterTc V d) ∗ dues (F := F) d) -∗ Q ⟨⟩))
      ⊢ wp frame (wpE ((K (F := F)).defs (D (F := F))) 𝒱 (T d) none) Set.univ
          (Prog.lift (.customCall (SparseCore.inner (Pipeline.entry 0)) ())) Q := by
  have hl := SparseCore.Cfg.wp_liftProg (K (F := F)) (D (F := F)) 𝒱 (T d) Set.univ none (.op (.customCall (Pipeline.entry 0) ()) fun _ => .ret ⟨⟩) Q
  have hr := Pipeline.RegionSeg.wp (pcfgs (F := F)) adm (dats V) none cellOf_inj EP (defs₀ (F := F)) 𝒱₀ (K (F := F)).L (K (F := F)).lev (region V) d none
    (fun _ h => nomatch h) (fun _ => .ret ⟨⟩) Q
  have hpre : (region V).pre d = iprop(StableHlo.held (d.tc : Thread nD τ) (Pipeline.ucRefs τ sig) (V d) ∗ dues (F := F) d) := rfl
  have hpost : (region V).post d = iprop(StableHlo.held (d.tc : Thread nD τ) (Pipeline.ucRefs τ sig) (afterTc V d) ∗ dues (F := F) d) := rfl
  rw [hpre, hpost] at hr
  refine BIBase.Entails.trans ?_ (hr.trans hl)
  iintro ⟨Hl, Hb, Hh, Hd, Hg, Ht, Hk⟩
  isplitl [Hk]
  · rw [wp_ret]
    iintro ⟨Hb, Hh, Hd⟩
    imodintro
    iapply Hk
    isplitl [Hb]; · iexact Hb
    isplitl [Hh]; · iexact Hh
    iexact Hd
  isplitl [Hb]; · iexact Hb
  isplitl [Hh Hd]
  · isplitl [Hh]; · iexact Hh
    iexact Hd
  isplitl [Hl]; · iexact Hl
  isplitl [Hg]; · iexact Hg
  iexact Ht

theorem one_idx (y y' : S1x1.Idx) : y = y' := by
  funext a
  match a with
  | 0 => exact Subsingleton.elim (α := Fin 1) _ _
  | 1 => exact Subsingleton.elim (α := Fin 1) _ _

/-- The output array after the region: the sum over all eight grid points. -/
theorem afterTc_out (d : Dev nD) : afterTc V d (Proc.devRef .tc main_v6) = outs V d 8 := by
  refine (Pipeline.afterRegion_arr (dats V 0 d) (V d) launch0.win.arr_inj 3).trans ?_
  refine (dats V 0 d).arrAt_eq_of_cover 3 (outs V d 8) (fun t ht => ?_) fun i => ⟨⟨7, show 7 < grid0.N by rw [N_0]; decide⟩, (flush0_3 _).mpr rfl, ?_⟩
  · have h7 : t.val = 7 := by
      have h := (flush0_3 t).mp ht
      have hN : cfg0.N = 8 := N_0
      have := t.isLt
      omega
    obtain rfl : t = ⟨7, show 7 < grid0.N by rw [N_0]; decide⟩ := Fin.ext h7
    funext y
    show (dats V 0 d).after 3 ⟨7, _⟩ _ = outs V d 8 _
    rw [after0_3]
    congr 1
    exact one_idx _ _
  · refine Finset.mem_map.mpr ⟨fun a => (⟨0, by revert a; decide⟩ : Fin _), Finset.mem_univ _, ?_⟩
    exact one_idx _ _

end Region

end Cert.Proof.TcRegion
-- ==== Proof.Tile.lean ====
module
public import proofs.«01_k».proof.Proof.Base
public import Idealize.ShloMosaic.Lib.Pipeline.Value

@[expose] public section

noncomputable section

namespace Cert.Proof.Tile

open Cert.KernelIdeal Cert.KernelIdeal.Gen Cert.Proof.Base Cert.Proof.Rolled
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 1) (Elt F) ℕ UU ℕ
local notation "xM" => (Memref.whole Cert.KernelIdeal.main_v7_scv : Memref Cert.KernelIdeal.sig Kind.scVector Space.hbm Cert.KernelIdeal.S16777216 EltTy.f32)
local notation "tM" => (Memref.whole Cert.KernelIdeal.main_arg2_scv : Memref Cert.KernelIdeal.sig Kind.scVector Space.hbm Cert.KernelIdeal.S131072 EltTy.f32)
local notation "eM" => (Memref.whole Cert.KernelIdeal.main_v0_scv : Memref Cert.KernelIdeal.sig Kind.scVector Space.hbm Cert.KernelIdeal.S131072 EltTy.f32)
local notation "oM" => (Memref.whole Cert.KernelIdeal.main_v8_scv : Memref Cert.KernelIdeal.sig Kind.scVector Space.hbm Cert.KernelIdeal.S32x16 EltTy.f32)
local notation "m6" => (Memref.whole Cert.KernelIdeal.cc1_scratch0 : Memref Cert.KernelIdeal.sig Kind.scVector Space.vmem Cert.KernelIdeal.S4096 EltTy.f32)
local notation "m7" => (Memref.whole Cert.KernelIdeal.cc1_scratch1 : Memref Cert.KernelIdeal.sig Kind.scVector Space.vmem Cert.KernelIdeal.S4096 EltTy.f32)
local notation "m8" => (Memref.whole Cert.KernelIdeal.cc1_scratch2 : Memref Cert.KernelIdeal.sig Kind.scVector Space.vmem Cert.KernelIdeal.S4096 EltTy.i32)
local notation "m9" => (Memref.whole Cert.KernelIdeal.cc1_scratch3 : Memref Cert.KernelIdeal.sig Kind.scVector Space.vmem Cert.KernelIdeal.S4096 EltTy.f32)
local notation "m10" => (Memref.whole Cert.KernelIdeal.cc1_scratch4 : Memref Cert.KernelIdeal.sig Kind.scVector Space.vmem Cert.KernelIdeal.S16 EltTy.f32)

/-! ## What the tile computes -/

/-- A time's bin: rounded up, clipped to `0 … 127`. -/
def bin (t : F .f32) : BitVec 32 :=
  IntOp.minsi 127#32 (IntOp.maxsi 0#32 (FloatOps.fptosi 32 t
    + Scalar.select (FloatOps.cmpf .ogt t (FloatOps.sitofp .f32 (FloatOps.fptosi 32 t : BitVec 32))) 1#32 0#32))

/-- The flat position of row `v2 + k`'s looked-up element. -/
def posAt (v2 : BitVec 32) (k : ℕ) (t : F .f32) : BitVec 32 := (v2 + BitVec.ofNat 32 k) * 128#32 + bin t

theorem idxVec_apply (v2 : BitVec 32) (o : ℕ) (t : Vec F S16 .f32) (l : S16.Idx) :
    idxVec v2 o t l = posAt v2 (o + (l 0).val) (t l) := by
  unfold idxVec posAt bin
  simp only [shapeCast_self]
  show ((v2 + BitVec.ofNat 32 o) + BitVec.ofNat 32 (0 * S16.size 0 + (l 0).val)) * 128#32 + _ = _
  rw [BitVec.add_assoc, ← BitVec.ofNat_add, Nat.zero_mul, Nat.zero_add]
  rfl

theorem bin_lt (t : F .f32) : (bin t).toNat < 128 := by
  unfold bin
  generalize (FloatOps.fptosi 32 t + Scalar.select (FloatOps.cmpf .ogt t (FloatOps.sitofp .f32 (FloatOps.fptosi 32 t : BitVec 32))) 1#32 0#32 : BitVec 32) = z
  unfold IntOp.minsi IntOp.maxsi
  by_cases h : (127#32).slt (if z.slt 0#32 = true then 0#32 else z) = true
  · rw [if_pos h]; decide
  · rw [if_neg h]
    by_cases h' : z.slt 0#32 = true
    · rw [if_pos h']; decide
    · rw [if_neg h'] at h ⊢
      have h1 : ¬ (127 : ℤ) < z.toInt := by simpa [BitVec.slt] using h
      have h2 : ¬ z.toInt < (0 : ℤ) := by simpa [BitVec.slt] using h'
      have := BitVec.toInt_eq_toNat_cond z
      have := z.isLt
      omega

/-- The number of the tile. -/
def wid (i : grid1.Coords) : ℕ := 2 * (i 1).val + (i 0).val

theorem wid_lt (i : grid1.Coords) : wid i < 32 := by
  have h0 : (i 0).val < 2 := (i 0).isLt
  have h1 : (i 1).val < 16 := (i 1).isLt
  unfold wid; omega

theorem rowBase_eq (i : grid1.Coords) : rowBase i = BitVec.ofNat 32 (4096 * wid i) := by
  have h := wid_lt i
  show (BitVec.ofNat 32 (i 1).val * 2#32 + BitVec.ofNat 32 (i 0).val) * 4096#32 = BitVec.ofNat 32 (4096 * (2 * (i 1).val + (i 0).val))
  apply BitVec.eq_of_toNat_eq
  unfold wid at h
  simp only [BitVec.toNat_mul, BitVec.toNat_add, BitVec.toNat_ofNat]
  omega

theorem posAt_toNat (i : grid1.Coords) (k : ℕ) (hk : k < 4096) (t : F .f32) :
    (posAt (rowBase i) k t).toNat = (4096 * wid i + k) * 128 + (bin t).toNat := by
  have h := wid_lt i
  have hb := bin_lt t
  unfold posAt
  rw [rowBase_eq, ← BitVec.ofNat_add, BitVec.toNat_add, BitVec.toNat_mul, BitVec.toNat_ofNat]
  simp only [show (128#32).toNat = 128 from rfl]
  omega

theorem posAt_lt (i : grid1.Coords) (k : ℕ) (hk : k < 4096) (t : F .f32) :
    (posAt (rowBase i) k t).toNat < 16777216 := by
  rw [posAt_toNat i k hk]
  have h := wid_lt i
  have hb := bin_lt t
  omega

/-- The positions of the tile's rows, from their times. -/
def posOf (i : grid1.Coords) (f6 : S4096.Idx → F .f32) : S4096.Idx → BitVec 32 :=
  fun y => posAt (rowBase i) (y 0).val (f6 y)

/-- The looked-up elements of the tile's rows. -/
def lookedUp (i : grid1.Coords) (x : S16777216.Idx → F .f32) (f6 : S4096.Idx → F .f32) : S4096.Idx → F .f32 :=
  fun y => x (ix1 ⟨(posOf i f6 y).toNat, posAt_lt i _ (y 0).isLt _⟩)

/-- Sixteen elements from offset `o`. -/
def seg {α : Type} (f : S4096.Idx → α) (o : ℕ) : S16.Idx → α := fun l => f (ix1 (Fin.ofNat 4096 (o + (l 0).val)))

/-- The sum of the first `m` vectors' products. -/
def accTo (f9 f7 : S4096.Idx → F .f32) : ℕ → FVec F S16 .f32
  | 0 => broadcast S16 (Scalar.ofBits .f32 0x00000000#32)
  | m + 1 => accVec (accTo f9 f7 m) (seg f9 (16 * m)) (seg f7 (16 * m))

/-! ## Rectangles of the tile's arrays -/

abbrev rect16 (o : ℕ) (h : o + 16 ≤ 4096) : Rect S4096 := Rect.unit (s := S4096) ![o] S16.size (inb16 h)
abbrev rect128 (n : ℕ) (h : n + 1 ≤ 32) : Rect S4096 := Rect.unit (s := S4096) ![128 * n] S128.size (inb128 (by omega))

theorem mem_rect16 {o : ℕ} {h : o + 16 ≤ 4096} {y : S4096.Idx} : y ∈ (rect16 o h).set ↔ o ≤ (y 0).val ∧ (y 0).val < o + 16 :=
  Rect.mem_set_unit.trans Fin.forall_fin_one

theorem mem_rect128 {n : ℕ} {h : n + 1 ≤ 32} {y : S4096.Idx} :
    y ∈ (rect128 n h).set ↔ 128 * n ≤ (y 0).val ∧ (y 0).val < 128 * n + 128 :=
  Rect.mem_set_unit.trans Fin.forall_fin_one

theorem emb16 {o : ℕ} {h : o + 16 ≤ 4096} (l : S16.Idx) : (rect16 o h).emb l = ix1 (Fin.ofNat 4096 (o + (l 0).val)) := by
  have hl : (l 0).val < 16 := (l 0).isLt
  rw [eq_ix1 ((rect16 o h).emb l)]
  congr 1
  apply Fin.ext
  rw [Rect.emb_apply]
  show o + 1 * (l 0).val = (o + (l 0).val) % 4096
  omega

section Thread

variable (d : Dev nD) (i : grid1.Coords)

/-- The tile's thread. -/
abbrev thr : Thread nD τ := V d ((i 0).castLE hcore1) ((i 1).castLE hsub1)

/-- The tile's times, whole. -/
abbrev p6 (f : S4096.Idx → F .f32) : sProp 𝕄 := (m6).view.loc (thr d i) ↦{fullShare} (f : Buf (Elt F) ((m6).view.loc (thr d i)))
/-- The tile's events, whole. -/
abbrev p7 (f : S4096.Idx → F .f32) : sProp 𝕄 := (m7).view.loc (thr d i) ↦{fullShare} (f : Buf (Elt F) ((m7).view.loc (thr d i)))
/-- Elements of the tile's positions. -/
abbrev p8 (S : Finset S4096.Idx) (f : S4096.Idx → BitVec 32) : sProp 𝕄 := (m8).view.loc (thr d i) ↦[S]{fullShare} (f : Buf (Elt F) ((m8).view.loc (thr d i)))
/-- Elements of the tile's looked-up elements. -/
abbrev p9 (S : Finset S4096.Idx) (f : S4096.Idx → F .f32) : sProp 𝕄 := (m9).view.loc (thr d i) ↦[S]{fullShare} (f : Buf (Elt F) ((m9).view.loc (thr d i)))
/-- A share of the indexed array. -/
abbrev px (q : PosShare TreeShare) (x : S16777216.Idx → F .f32) : sProp 𝕄 :=
  (srcRef xM).view.loc (thr d i) ↦[(srcRef xM).view.set]{q} (x : Buf (Elt F) ((xM).view.loc (thr d i)))

/-- Contents after the vectors at offsets `b`, `b + 16`, …, below `b + 16 j` are stored over `g`. -/
def fillTo (i : grid1.Coords) (f6 : S4096.Idx → F .f32) (b j : ℕ) (g : S4096.Idx → BitVec 32) : S4096.Idx → BitVec 32 :=
  fun y => if b ≤ (y 0).val ∧ (y 0).val < b + 16 * j then posOf i f6 y else g y

variable {α : Type}

theorem write16 (f6 : S4096.Idx → F .f32) (b j : ℕ) (h : b + 16 * j + 16 ≤ 4096) (g : S4096.Idx → BitVec 32) :
    ((m8).access (rect16 (b + 16 * j) h)).write (Elt F) (fillTo i f6 b j g) (idxVec (rowBase i) (b + 16 * j)
        (((m6).access (rect16 (b + 16 * j) h)).read (Elt F) f6)) Finset.univ
      = fillTo i f6 b (j + 1) g := by
  funext y
  by_cases hy : y ∈ (rect16 (b + 16 * j) h).set
  · obtain ⟨x, rfl⟩ := (rect16 (b + 16 * j) h).exists_idx_of_mem hy
    have hx : (x 0).val < 16 := (x 0).isLt
    refine (View.write_emb_of_mem (Val := Elt F) (v := (m8).access (rect16 (b + 16 * j) h)) _ _ (Finset.mem_univ x)).trans ?_
    have e0 : (((rect16 (b + 16 * j) h).idx x) 0).val = b + 16 * j + (x 0).val := by
      show b + 16 * j + 1 * (x 0).val = _; omega
    rw [cast_eq, idxVec_apply]
    unfold fillTo posOf
    rw [if_pos (by rw [e0]; omega), e0]
    rfl
  · rw [View.write_of_not_mem]
    · unfold fillTo
      rw [mem_rect16] at hy
      by_cases h1 : b ≤ (y 0).val ∧ (y 0).val < b + 16 * j
      · rw [if_pos h1, if_pos (by omega)]
      · rw [if_neg h1, if_neg (by omega)]
    · rw [View.setOn_univ]
      show y ∉ ((View.whole (cc1_scratch2 : Ref sig .scVector)).slice _).set
      rw [View.set_slice]; rwa [show Finset.map (View.whole (cc1_scratch2 : Ref sig .scVector)).emb (rect16 (b + 16 * j) h).set = (rect16 (b + 16 * j) h).set from Finset.map_refl]

/-- The vectors of a chunk: with the times held and the positions' elements from `b` to `b + 16 j` among those held, the
    positions come back filled there. -/
theorem wp_idxSteps {Q : α → sProp 𝕄} (b : ℕ) (S : Finset S4096.Idx) (f6 : S4096.Idx → F .f32) (g : S4096.Idx → BitVec 32) :
    ∀ (j : ℕ) (h : b + 16 * j ≤ 4096) (_ : ∀ y : S4096.Idx, b ≤ (y 0).val → (y 0).val < b + 16 * j → y ∈ S) (K : TileProg F i α),
      iprop(p6 d i f6
          ∗ p8 d i S g)
        ⊢ iprop((iprop(p6 d i f6
              ∗ p8 d i S (fillTo i f6 b j g))
            -∗ wp frame (wpE (defs₀ (F := F)) 𝒱₀ (thr d i) none) Set.univ K Q)
          -∗ wp frame (wpE (defs₀ (F := F)) 𝒱₀ (thr d i) none) Set.univ (idxSteps i m6 m8 (rowBase i) b j h K) Q) := by
  intro j
  induction j with
  | zero =>
    intro h hS K
    have e : fillTo i f6 b 0 g = g := funext fun y => if_neg (by omega)
    rw [e]
    iintro H Hk
    iapply Hk; iexact H
  | succ j ih =>
    intro h hS K
    have hr : b + 16 * j + 16 ≤ 4096 := by omega
    have hsub : (rect16 (b + 16 * j) hr).set ⊆ S := fun y hy => by
      rw [mem_rect16] at hy; exact hS y (by omega) (by omega)
    have hset8 : ((m8).access (rect16 (b + 16 * j) hr)).set = (rect16 (b + 16 * j) hr).set := by
      show ((View.whole (cc1_scratch2 : Ref sig .scVector)).slice _).set = _
      rw [View.set_slice]; exact Finset.map_refl
    iintro H Hk
    have hS' : ∀ y : S4096.Idx, b ≤ (y 0).val → (y 0).val < b + 16 * j → y ∈ S := fun y h1 h2 => hS y h1 (by omega)
    iapply (ih _ hS' _) $$ H
    iintro ⟨H6, H8⟩
    have hld : ((m8).access (rect16 (b + 16 * j) hr)).set ⊆ S := by rw [hset8]; exact hsub
    have hst : ((m8).access (rect16 (b + 16 * j) hr)).setOn Finset.univ ⊆ S := by rw [View.setOn_univ]; exact hld
    iapply (wp_load_rect (m := m6) (r := rect16 (b + 16 * j) hr) 𝒱₀ (thr d i) none Set.univ (Finset.subset_univ _)) $$ H6
    iintro H6
    iapply (wp_load_rect (m := m8) (r := rect16 (b + 16 * j) hr) 𝒱₀ (thr d i) none Set.univ hld) $$ H8
    iintro H8
    iapply (wp_store (m := m8) (r := rect16 (b + 16 * j) hr) 𝒱₀ (thr d i) none Set.univ hst) $$ H8
    iintro H8
    ihave H8' := (Entails.of_eq (congrArg (fun f => (p8 d i S f : sProp 𝕄)) (write16 i f6 b j hr g))) $$ H8
    iapply Hk
    isplitl [H6]; · iexact H6
    iexact H8'

/-! ## The chunks' copies -/

theorem set_chunk {e : EltTy} (b : Ref sig .scVector) (v : View sig .scVector .vmem S4096 e) (n : ℕ) (h : n + 1 ≤ 32) :
    (v.slice (rect128 n h)).set = (rect128 n h).set.map v.emb := View.set_slice v _

/-- The cell of chunk `n`. -/
abbrev cell (n : Fin 32) : GSem nD τ sig := (thr d i, .dma (chunkSem cc1_scratch5 n.val n.isLt))

theorem chunkN (n : ℕ) (h : n + 1 ≤ 32) (hg : S16777216.Gathers 0 S128) :
    ∑ j, ((chunkRef m9 n h).slice (S128.rowRect hg.axis' j) (S128.stride_rowRect hg.axis' j)).view.dmaCredit
      = (chunkRef m9 n h).view.dmaCredit := by
  have h0 : ∀ hg : S16777216.Gathers 0 S128, ∑ j, ((chunkRef m9 0 (by decide)).slice (S128.rowRect hg.axis' j) (S128.stride_rowRect hg.axis' j)).view.dmaCredit
      = (chunkRef m9 0 (by decide)).view.dmaCredit := by decide
  exact h0 hg

variable (q : PosShare TreeShare) (x : S16777216.Idx → F .f32) (f6 f7 g9 : S4096.Idx → F .f32) (g8 : S4096.Idx → BitVec 32)

/-- Chunk `n` before its copy is issued. -/
def pend (n : Fin 32) : sProp 𝕄 :=
  iprop(p9 d i (chunkRef m9 n.val n.isLt).view.set g9
    ∗ p8 d i (chunkRef m8 n.val n.isLt).view.set g8
    ∗ semVal (cell d i n) 0
    ∗ px d i (Transfers.shareTok q 32 n) x)

/-- What chunk `n`'s copy delivers: its looked-up elements, its positions, its share of the indexed array. -/
def got (n : Fin 32) : sProp 𝕄 :=
  iprop(p9 d i (chunkRef m9 n.val n.isLt).view.set (lookedUp i x f6)
    ∗ (px d i (Transfers.shareTok q 32 n) x)
    ∗ p8 d i (chunkRef m8 n.val n.isLt).view.set (posOf i f6))

/-- Chunk `n` with its copy in flight. -/
def flying (n : Fin 32) : sProp 𝕄 :=
  Transfers.Flight countersEmb (thr d i) (.dma (chunkSem cc1_scratch5 n.val n.isLt)) (default : HIx 1) (chunkRef m9 n.val n.isLt).view.dmaCredit
    (got d i q x f6 n)

/-- Chunk `n` after the wait for its copy. -/
def done (n : Fin 32) : sProp 𝕄 := iprop(got d i q x f6 n ∗ semVal (cell d i n) 0)

theorem mem_chunkSet {b : Ref sig .scVector} {n : ℕ} {h : n + 1 ≤ 32} {y : S4096.Idx} :
    y ∈ ((rect128 n h).set.map (Function.Embedding.refl S4096.Idx)) ↔ 128 * n ≤ (y 0).val ∧ (y 0).val < 128 * n + 128 := by
  rw [Finset.map_refl]; exact mem_rect128

theorem mem_chunk8 {n : ℕ} {h : n + 1 ≤ 32} {y : S4096.Idx} :
    y ∈ (chunkRef m8 n h).view.set ↔ 128 * n ≤ (y 0).val ∧ (y 0).val < 128 * n + 128 := by
  show y ∈ ((View.whole (cc1_scratch2 : Ref sig .scVector)).slice (rect128 n h)).set ↔ _
  rw [View.set_slice, show Finset.map (View.whole (cc1_scratch2 : Ref sig .scVector)).emb (rect128 n h).set = (rect128 n h).set from Finset.map_refl]
  exact mem_rect128

theorem mem_chunk9 {n : ℕ} {h : n + 1 ≤ 32} {y : S4096.Idx} :
    y ∈ (chunkRef m9 n h).view.set ↔ 128 * n ≤ (y 0).val ∧ (y 0).val < 128 * n + 128 := by
  show y ∈ ((View.whole (cc1_scratch3 : Ref sig .scVector)).slice (rect128 n h)).set ↔ _
  rw [View.set_slice, show Finset.map (View.whole (cc1_scratch3 : Ref sig .scVector)).emb (rect128 n h).set = (rect128 n h).set from Finset.map_refl]
  exact mem_rect128

theorem pos_in (n : ℕ) (h : n + 1 ≤ 32) (y : S128.Idx) :
    ((chunkRef m8 n h).view.read (Elt F) (posOf i f6 : Buf (Elt F) ((m8).view.loc (thr d i))) y).toNat < S16777216.size gathers_S16777216_S128.axis :=
  posAt_lt i _ ((rect128 n h).emb y 0).isLt _

/-- What the copy of chunk `n` writes is the looked-up elements. -/
theorem gathered (n : ℕ) (h : n + 1 ≤ 32) (y : S4096.Idx) (hy : y ∈ (chunkRef m9 n h).view.set) :
    (chunkRef m9 n h).view.write (Elt F) (g9 : Buf (Elt F) ((m9).view.loc (thr d i)))
        (SparseCore.gatherPayload gathers_S16777216_S128 ((srcRef xM).view.read (Elt F) (x : Buf (Elt F) ((xM).view.loc (thr d i))))
          (SparseCore.rows ((chunkRef m8 n h).view.read (Elt F) (posOf i f6 : Buf (Elt F) ((m8).view.loc (thr d i)))) rfl (pos_in i f6 n h))) Finset.univ y
      = lookedUp i x f6 y := by
  obtain ⟨z, -, rfl⟩ := Finset.mem_map.mp hy
  refine (View.write_emb_of_mem (Val := Elt F) (v := (chunkRef m9 n h).view) _ _ (Finset.mem_univ z)).trans ?_
  rw [cast_eq]
  have hz : S128.rowMajor.symm (Fin.cast rfl (z 0)) = z := by
    rw [Equiv.symm_apply_eq]; exact Fin.ext (Shape.rowMajor_val_one z).symm
  unfold SparseCore.gatherPayload lookedUp
  refine (View.read_apply _ _).trans ?_
  rw [cast_eq]
  show x _ = x _
  congr 1
  funext a
  match a with
  | ⟨0, _⟩ =>
    apply Fin.ext
    show 0 + 1 * (posOf i f6 ((rect128 n h).emb (S128.rowMajor.symm (Fin.cast rfl (z 0))))).toNat = (posOf i f6 ((rect128 n h).emb z)).toNat
    rw [hz]; omega

theorem got_of (n : Fin 32) :
    iprop(p9 d i (chunkRef m9 n.val n.isLt).view.set ((chunkRef m9 n.val n.isLt).view.write (Elt F) (g9 : Buf (Elt F) ((m9).view.loc (thr d i)))
        (SparseCore.gatherPayload gathers_S16777216_S128 ((srcRef xM).view.read (Elt F) (x : Buf (Elt F) ((xM).view.loc (thr d i))))
          (SparseCore.rows ((chunkRef m8 n.val n.isLt).view.read (Elt F) (posOf i f6 : Buf (Elt F) ((m8).view.loc (thr d i)))) rfl (pos_in i f6 n.val n.isLt))) Finset.univ)
      ∗ px d i (Transfers.shareTok q 32 n) x ∗ p8 d i (chunkRef m8 n.val n.isLt).view.set (posOf i f6)) ⊢ (got d i q x f6 n : sProp 𝕄) := by
  unfold got
  exact sep_mono_left (Entails.of_eq (pointsTo_congr (gathered i x f6 g9 n.val n.isLt)))

/-- Chunk `n`'s positions computed and its copy issued. -/
theorem wp_issueChunk {Q : α → sProp 𝕄} (n : Fin 32) (K : TileProg F i α) :
    iprop(p6 d i f6 ∗ pend d i q x g9 g8 n)
      ⊢ iprop((iprop(p6 d i f6 ∗ flying d i q x f6 n)
            -∗ wp frame (wpE (defs₀ (F := F)) 𝒱₀ (thr d i) none) Set.univ K Q)
          -∗ wp frame (wpE (defs₀ (F := F)) 𝒱₀ (thr d i) none) Set.univ
            (issueChunk i xM m6 m8 m9 cc1_scratch5 (rowBase i) n.val n.isLt K) Q) := by
  have hn := n.isLt
  unfold pend flying issueChunk
  iintro ⟨H6, H9, H8, Hs, Hx⟩ Hk
  iapply (wp_idxSteps d i (128 * n.val) (chunkRef m8 n.val n.isLt).view.set f6 g8 8 _
    (fun y h1 h2 => mem_chunk8.mpr ⟨h1, h2⟩) _) $$ [H6 H8]
  · isplitl [H6]; · iexact H6
    iexact H8
  iintro ⟨H6, H8⟩
  ihave H8' := (Entails.of_eq (show p8 d i (chunkRef m8 n.val n.isLt).view.set (fillTo i f6 (128 * n.val) 8 g8)
      = p8 d i (chunkRef m8 n.val n.isLt).view.set (posOf i f6) from pointsTo_congr
    (fun y hy => if_pos (mem_chunk8.mp hy)))) $$ H8
  iapply (SparseCore.wp_indirectGatherLocal countersEmb 𝒱₀ (thr d i) none (hg := gathers_S16777216_S128) (default : HIx 1)
      (chunkRef m9 n.val n.isLt).view.dmaCredit (chunkN n.val n.isLt _) (by decide) (pos_in i f6 n.val n.isLt)) $$ [H9 H8' Hs Hx]
  · isplitl [Hx]; · iexact Hx
    isplitl [H9]; · iexact H9
    isplitl [H8']; · iexact H8'
    iexact Hs
  iintro Hfl
  iapply Hk
  isplitl [H6]; · iexact H6
  iapply (Transfers.Flight_mono countersEmb (thr d i) (got_of d i q x f6 g9 n))
  iexact Hfl

omit [FloatOps F] in
/-- A family over the chunks, one kind below `n` and another from `n`, with chunk `n` taken out. -/
theorem family_lo (A B : Fin 32 → sProp 𝕄) (n : Fin 32) :
    (bigSep Finset.univ fun k : Fin 32 => if k.val < n.val then A k else B k)
      = iprop(B n ∗ bigSep (Finset.univ.erase n) fun k : Fin 32 => if k.val < n.val then A k else B k) := by
  rw [SparseCore.bigSep_erase' (Finset.mem_univ n), if_neg (lt_irrefl _)]

omit [FloatOps F] in
/-- The same with chunk `n` put back as the first kind. -/
theorem family_hi (A B : Fin 32 → sProp 𝕄) (n : Fin 32) :
    (bigSep Finset.univ fun k : Fin 32 => if k.val < n.val + 1 then A k else B k)
      = iprop(A n ∗ bigSep (Finset.univ.erase n) fun k : Fin 32 => if k.val < n.val then A k else B k) := by
  rw [SparseCore.bigSep_erase' (Finset.mem_univ n), if_pos (Nat.lt_succ_self _)]
  congr 1
  refine bigSep_congr fun k hk => ?_
  have hne : k.val ≠ n.val := fun e => (Finset.mem_erase.mp hk).1 (Fin.ext e)
  by_cases h : k.val < n.val
  · rw [if_pos h, if_pos (by omega)]
  · rw [if_neg h, if_neg (by omega)]

/-- The first `n` chunks' copies issued. -/
theorem wp_issueChunks {Q : α → sProp 𝕄} : ∀ (n : ℕ) (h : n ≤ 32) (K : TileProg F i α),
    iprop(p6 d i f6 ∗ bigSep Finset.univ fun k : Fin 32 => if k.val < 0 then flying d i q x f6 k else pend d i q x g9 g8 k)
      ⊢ iprop((iprop(p6 d i f6 ∗ bigSep Finset.univ fun k : Fin 32 => if k.val < n then flying d i q x f6 k else pend d i q x g9 g8 k)
            -∗ wp frame (wpE (defs₀ (F := F)) 𝒱₀ (thr d i) none) Set.univ K Q)
          -∗ wp frame (wpE (defs₀ (F := F)) 𝒱₀ (thr d i) none) Set.univ
            (issueChunks i xM m6 m8 m9 cc1_scratch5 (rowBase i) n h K) Q) := by
  intro n
  induction n with
  | zero =>
    intro h K
    iintro H Hk
    iapply Hk; iexact H
  | succ n ih =>
    intro h K
    have hlo := family_lo (flying d i q x f6) (pend d i q x g9 g8) ⟨n, h⟩
    have hhi := family_hi (flying d i q x f6) (pend d i q x g9 g8) ⟨n, h⟩
    iintro H Hk
    iapply (ih _ _) $$ H
    iintro ⟨H6, H⟩
    ihave H' := (Entails.of_eq hlo) $$ H
    icases H' with ⟨Hn, Hr⟩
    iapply (wp_issueChunk d i q x f6 g9 g8 ⟨n, h⟩ K) $$ [H6 Hn]
    · isplitl [H6]; · iexact H6
      iexact Hn
    iintro ⟨H6, Hn⟩
    iapply Hk
    isplitl [H6]; · iexact H6
    iapply (Entails.of_eq hhi.symm)
    isplitl [Hn]; · iexact Hn
    iexact Hr

/-! ## The sums -/

omit [FloatOps F] in
theorem read9 (f : S4096.Idx → F .f32) (o : ℕ) (h : o + 16 ≤ 4096) :
    ((m9).access (rect16 o h)).read (Elt F) (f : Buf (Elt F) ((m9).view.loc (thr d i))) = seg f o := by
  funext l
  show f ((rect16 o h).emb l) = _
  rw [emb16]; rfl

omit [FloatOps F] in
theorem read7 (f : S4096.Idx → F .f32) (o : ℕ) (h : o + 16 ≤ 4096) :
    ((m7).access (rect16 o h)).read (Elt F) (f : Buf (Elt F) ((m7).view.loc (thr d i))) = seg f o := by
  funext l
  show f ((rect16 o h).emb l) = _
  rw [emb16]; rfl

/-- The vectors of a landed chunk summed. -/
theorem wp_accSteps {Q : α → sProp 𝕄} (n : ℕ) (S : Finset S4096.Idx) (f9 : S4096.Idx → F .f32) :
    ∀ (j : ℕ) (h : 128 * n + 16 * j ≤ 4096) (_ : ∀ y : S4096.Idx, 128 * n ≤ (y 0).val → (y 0).val < 128 * n + 16 * j → y ∈ S)
      (K : FVec F S16 .f32 → TileProg F i α),
      iprop(p7 d i f7 ∗ p9 d i S f9)
        ⊢ iprop((iprop(p7 d i f7 ∗ p9 d i S f9)
            -∗ wp frame (wpE (defs₀ (F := F)) 𝒱₀ (thr d i) none) Set.univ (K (accTo f9 f7 (8 * n + j))) Q)
          -∗ wp frame (wpE (defs₀ (F := F)) 𝒱₀ (thr d i) none) Set.univ
            (accSteps i m7 m9 (128 * n) (accTo f9 f7 (8 * n)) j h K) Q) := by
  intro j
  induction j with
  | zero =>
    intro h hS K
    iintro H Hk
    iapply Hk; iexact H
  | succ j ih =>
    intro h hS K
    have hr : 128 * n + 16 * j + 16 ≤ 4096 := by omega
    have hsub : (rect16 (128 * n + 16 * j) hr).set ⊆ S := fun y hy => by
      rw [mem_rect16] at hy; exact hS y (by omega) (by omega)
    have hld : ((m9).access (rect16 (128 * n + 16 * j) hr)).set ⊆ S := by
      rw [show ((m9).access (rect16 (128 * n + 16 * j) hr)).set = (rect16 (128 * n + 16 * j) hr).set from
        (View.set_slice _ _).trans Finset.map_refl]
      exact hsub
    have hS' : ∀ y : S4096.Idx, 128 * n ≤ (y 0).val → (y 0).val < 128 * n + 16 * j → y ∈ S := fun y h1 h2 => hS y h1 (by omega)
    have e : accTo f9 f7 (8 * n + (j + 1)) = accVec (accTo f9 f7 (8 * n + j)) (((m9).access (rect16 (128 * n + 16 * j) hr)).read (Elt F) (f9 : Buf (Elt F) ((m9).view.loc (thr d i))))
        (((m7).access (rect16 (128 * n + 16 * j) hr)).read (Elt F) (f7 : Buf (Elt F) ((m7).view.loc (thr d i)))) := by
      rw [read9, read7, show 128 * n + 16 * j = 16 * (8 * n + j) by omega]; rfl
    rw [e]
    iintro H Hk
    iapply (ih _ hS' _) $$ H
    iintro ⟨H7, H9⟩
    iapply (wp_load_rect (m := m9) (r := rect16 (128 * n + 16 * j) hr) 𝒱₀ (thr d i) none Set.univ hld) $$ H9
    iintro H9
    iapply (wp_load_rect (m := m7) (r := rect16 (128 * n + 16 * j) hr) 𝒱₀ (thr d i) none Set.univ (Finset.subset_univ _)) $$ H7
    iintro H7
    iapply Hk
    isplitl [H7]; · iexact H7
    iexact H9

variable (O : CellTallies nD τ sig (HIx 1)) (W : Waits sig (HIx 1))

/-- The waits recorded are those there were and the tile's own. -/
def owed : sProp 𝕄 := iprop(∃ W', ⌜∀ p ∈ W', p ∈ W ∨ p.2 = none⌝ ∗ owes (thr d i) O W')

omit [FloatOps F] in
theorem owed_insert (sm : SemLoc sig) (W' : Waits sig (HIx 1)) (hW : ∀ p ∈ W', p ∈ W ∨ p.2 = none) :
    (owes (thr d i) O (insert (sm, (default : HIx 1)) W') : sProp 𝕄) ⊢ owed d i O W := by
  unfold owed
  iintro H
  iexists _; isplitr
  swap; · iexact H
  ipureintro; intro p hp
  rcases Finset.mem_insert.mp hp with hp | hp
  · exact .inr (hp ▸ rfl)
  · exact hW p hp

/-- Chunk `n` waited for and summed. -/
theorem wp_sumChunk {Q : α → sProp 𝕄} (n : Fin 32) (K : FVec F S16 .f32 → TileProg F i α) :
    iprop(Transfers.MayWaits (thr d i) (default : HIx 1) O ∗ p7 d i f7 ∗ owed d i O W ∗ flying d i q x f6 n)
      ⊢ iprop((iprop(p7 d i f7 ∗ owed d i O W ∗ done d i q x f6 n)
            -∗ wp frame (wpE (defs₀ (F := F)) 𝒱₀ (thr d i) none) Set.univ (K (accTo (lookedUp i x f6) f7 (8 * (n.val + 1)))) Q)
          -∗ wp frame (wpE (defs₀ (F := F)) 𝒱₀ (thr d i) none) Set.univ
            (sumChunk i xM m7 m9 cc1_scratch5 n.val n.isLt (accTo (lookedUp i x f6) f7 (8 * n.val)) K) Q) := by
  unfold sumChunk flying done got
  rw [show 8 * (n.val + 1) = 8 * n.val + 8 by omega]
  iintro ⟨#Hmw, H7, HO, Hfl⟩ Hk
  ihave HO' := (Entails.of_eq (show owed d i O W = iprop(∃ W', ⌜∀ p ∈ W', p ∈ W ∨ p.2 = none⌝ ∗ owes (thr d i) O W') from rfl)) $$ HO
  icases HO' with ⟨%W', %hW, HO⟩
  iapply (Transfers.wp_waitLocalO countersEmb 𝒱₀ (thr d i) none (default : HIx 1) rfl) $$ [Hfl HO]
  · isplitl [Hfl]; · iexact Hfl
    isplitl [HO]; · iexact HO
    iapply (Transfers.MayWaits.elim (SemLoc.dma (chunkSem cc1_scratch5 n.val n.isLt))) $$ Hmw
  iintro ⟨⟨H9, Hx, H8⟩, Hs, HO⟩
  iapply (wp_accSteps d i f7 n.val (chunkRef m9 n.val n.isLt).view.set (lookedUp i x f6) 8 _
    (fun y h1 h2 => mem_chunk9.mpr ⟨h1, h2⟩) K) $$ [H7 H9]
  · isplitl [H7]; · iexact H7
    iexact H9
  iintro ⟨H7, H9⟩
  iapply Hk
  isplitl [H7]; · iexact H7
  isplitl [HO]
  · iapply (owed_insert d i O W _ W' hW); iexact HO
  isplitr [Hs]
  · isplitl [H9]; · iexact H9
    isplitl [Hx]; · iexact Hx
    iexact H8
  iexact Hs

/-- The first `n` chunks waited for and summed. -/
theorem wp_sumChunks {Q : α → sProp 𝕄} : ∀ (n : ℕ) (h : n ≤ 32) (K : FVec F S16 .f32 → TileProg F i α),
    iprop(Transfers.MayWaits (thr d i) (default : HIx 1) O ∗ p7 d i f7 ∗ owed d i O W
        ∗ bigSep Finset.univ fun k : Fin 32 => if k.val < 0 then done d i q x f6 k else flying d i q x f6 k)
      ⊢ iprop((iprop(p7 d i f7 ∗ owed d i O W ∗ bigSep Finset.univ fun k : Fin 32 => if k.val < n then done d i q x f6 k else flying d i q x f6 k)
            -∗ wp frame (wpE (defs₀ (F := F)) 𝒱₀ (thr d i) none) Set.univ (K (accTo (lookedUp i x f6) f7 (8 * n))) Q)
          -∗ wp frame (wpE (defs₀ (F := F)) 𝒱₀ (thr d i) none) Set.univ
            (sumChunks i xM m7 m9 cc1_scratch5 (accTo (lookedUp i x f6) f7 0) n h K) Q) := by
  intro n
  induction n with
  | zero =>
    intro h K
    iintro ⟨-, H⟩ Hk
    iapply Hk; iexact H
  | succ n ih =>
    intro h K
    have hlo := family_lo (done d i q x f6) (flying d i q x f6) ⟨n, h⟩
    have hhi := family_hi (done d i q x f6) (flying d i q x f6) ⟨n, h⟩
    iintro ⟨#Hmw, H⟩ Hk
    iapply (ih _ _) $$ [H]
    · isplitr; · iexact Hmw
      iexact H
    iintro ⟨H7, HO, H⟩
    ihave H' := (Entails.of_eq hlo) $$ H
    icases H' with ⟨Hn, Hr⟩
    iapply (wp_sumChunk d i q x f6 f7 O W ⟨n, h⟩ K) $$ [H7 HO Hn]
    · isplitr; · iexact Hmw
      isplitl [H7]; · iexact H7
      isplitl [HO]; · iexact HO
      iexact Hn
    iintro ⟨H7, HO, Hn⟩
    iapply Hk
    isplitl [H7]; · iexact H7
    isplitl [HO]; · iexact HO
    iapply (Entails.of_eq hhi.symm)
    isplitl [Hn]; · iexact Hn
    iexact Hr

/-! ## The tile's resources opened -/

/-- The elements of chunk `n`. -/
abbrev chunkSet (n : Fin 32) : Finset S4096.Idx := (chunkRef m9 n.val n.isLt).view.set

theorem chunks_disjoint (a b : Fin 32) (h : a ≠ b) : Disjoint (chunkSet a) (chunkSet b) := by
  refine Finset.disjoint_left.mpr fun y h1 h2 => h (Fin.ext ?_)
  rw [mem_chunk9] at h1 h2
  omega

theorem chunks_cover : (Finset.univ : Finset (Fin 32)).biUnion chunkSet = Finset.univ := by
  refine Finset.eq_univ_of_forall fun y => Finset.mem_biUnion.mpr ⟨⟨(y 0).val / 128, ?_⟩, Finset.mem_univ _, ?_⟩
  · have : (y 0).val < 4096 := (y 0).isLt
    omega
  · rw [mem_chunk9]; show 128 * ((y 0).val / 128) ≤ (y 0).val ∧ (y 0).val < 128 * ((y 0).val / 128) + 128; omega

theorem chunk8_eq (n : Fin 32) : ((chunkRef m8 n.val n.isLt).view.set : Finset S4096.Idx) = chunkSet n := by
  ext y; rw [mem_chunk8, mem_chunk9]

theorem p9_chunks (f : S4096.Idx → F .f32) :
    p9 d i Finset.univ f = bigSep Finset.univ fun n : Fin 32 => p9 d i (chunkRef m9 n.val n.isLt).view.set f := by
  rw [← chunks_cover]
  exact pointsTo_biUnion (ℓ := (m9).view.loc (thr d i)) Finset.univ chunkSet fun a _ b _ h => chunks_disjoint a b h

theorem p8_chunks (f : S4096.Idx → BitVec 32) :
    (p8 d i Finset.univ f : sProp 𝕄) = bigSep Finset.univ fun n : Fin 32 => (p8 d i (chunkRef m8 n.val n.isLt).view.set f : sProp 𝕄) := by
  rw [show (bigSep Finset.univ fun n : Fin 32 => (p8 d i (chunkRef m8 n.val n.isLt).view.set f : sProp 𝕄))
      = bigSep Finset.univ fun n : Fin 32 => (p8 d i (chunkSet n) f : sProp 𝕄) from
    bigSep_congr fun n _ => congrArg (fun S => (p8 d i S f : sProp 𝕄)) (chunk8_eq n), ← chunks_cover]
  exact pointsTo_biUnion (ℓ := (m8).view.loc (thr d i)) Finset.univ chunkSet fun a _ b _ h => chunks_disjoint a b h

/-- Every chunk ready for its copy. -/
theorem pend_all :
    iprop(p9 d i Finset.univ g9 ∗ p8 d i Finset.univ g8 ∗ (bigSep Finset.univ fun n : Fin 32 => semVal (cell d i n) 0)
        ∗ bigSep Finset.univ fun n : Fin 32 => px d i (Transfers.shareTok q 32 n) x)
      ⊢ bigSep Finset.univ fun k : Fin 32 => if k.val < 0 then flying d i q x f6 k else pend d i q x g9 g8 k := by
  rw [show (bigSep Finset.univ fun k : Fin 32 => if k.val < 0 then flying d i q x f6 k else pend d i q x g9 g8 k)
    = bigSep Finset.univ fun k : Fin 32 => pend d i q x g9 g8 k from bigSep_congr fun k _ => if_neg (Nat.not_lt_zero _)]
  unfold pend
  rw [bigSep_sep', bigSep_sep', bigSep_sep', ← p9_chunks, ← p8_chunks]

/-- Every chunk delivered: the looked-up elements, the positions, the semaphores and the shares. -/
theorem done_all :
    (bigSep Finset.univ fun k : Fin 32 => if k.val < 32 then done d i q x f6 k else flying d i q x f6 k)
      ⊢ iprop((p9 d i Finset.univ (lookedUp i x f6) ∗ (bigSep Finset.univ fun n : Fin 32 => px d i (Transfers.shareTok q 32 n) x)
          ∗ p8 d i Finset.univ (posOf i f6)) ∗ (bigSep Finset.univ fun n : Fin 32 => semVal (cell d i n) 0)) := by
  rw [show (bigSep Finset.univ fun k : Fin 32 => if k.val < 32 then done d i q x f6 k else flying d i q x f6 k)
    = bigSep Finset.univ fun k : Fin 32 => done d i q x f6 k from bigSep_congr fun k _ => if_pos k.isLt]
  unfold done got
  rw [bigSep_sep', bigSep_sep', bigSep_sep', ← p9_chunks, ← p8_chunks]

theorem chunkSem_val (n : Fin 32) : (chunkSem cc1_scratch5 n.val n.isLt).val = 6 + n.val := by
  revert n; decide

theorem cell_inj : Function.Injective (cell d i) := fun a b h => by
  have h1 := (Prod.mk.inj h).2
  have h2 : chunkSem cc1_scratch5 a.val a.isLt = chunkSem cc1_scratch5 b.val b.isLt := by injection h1
  have h3 := congrArg Fin.val h2
  rw [chunkSem_val, chunkSem_val] at h3
  exact Fin.ext (by omega)

abbrev cellA : GSem nD τ sig := (thr d i, .dma cc1_scoped0.sem)
abbrev cellB : GSem nD τ sig := (thr d i, .dma cc1_scoped1.sem)
abbrev cellC : GSem nD τ sig := (thr d i, .dma cc1_scoped2.sem)

/-- The cells the tile uses for its chunks. -/
def chunkCells : Finset (GSem nD τ sig) := Finset.univ.map ⟨cell d i, cell_inj d i⟩

theorem cell_mem (s : DmaSem sig) (hs : (SemLoc.dma s : SemLoc sig).isScoped .scVector = true) :
    ((thr d i, .dma s) : GSem nD τ sig) ∈ SparseCore.Cfg.ownCells (thr d i) :=
  SparseCore.Cfg.mem_ownCells.mpr ⟨rfl, hs⟩

theorem chunkSem_scoped (n : Fin 32) : (SemLoc.dma (chunkSem cc1_scratch5 n.val n.isLt) : SemLoc sig).isScoped .scVector = true := by
  revert n; decide

theorem chunkCells_sub : chunkCells d i ⊆ (((SparseCore.Cfg.ownCells (thr d i)).erase (cellA d i)).erase (cellB d i)).erase (cellC d i) := by
  intro g hg
  obtain ⟨n, -, rfl⟩ := Finset.mem_map.mp hg
  have hne (s : DmaSem sig) (hs : 38 ≤ s.val) : cell d i n ≠ (thr d i, .dma s) := fun h => by
    have h1 := (Prod.mk.inj h).2
    have h2 : chunkSem cc1_scratch5 n.val n.isLt = s := by injection h1
    have h3 := congrArg Fin.val h2
    rw [chunkSem_val] at h3
    have := n.isLt
    omega
  refine Finset.mem_erase.mpr ⟨hne _ (by decide), Finset.mem_erase.mpr ⟨hne _ (by decide), Finset.mem_erase.mpr ⟨hne _ (by decide), ?_⟩⟩⟩
  exact cell_mem d i _ (chunkSem_scoped n)

/-- The tile's semaphores at zero are its three single ones, its chunks' and the rest. -/
theorem ownSems0_V :
    (SparseCore.Cfg.ownSems0 (thr d i) : sProp 𝕄)
      = iprop(semVal (cellA d i) 0 ∗ semVal (cellB d i) 0 ∗ semVal (cellC d i) 0 ∗ (bigSep Finset.univ fun n : Fin 32 => semVal (cell d i n) 0)
          ∗ bigSep (((((SparseCore.Cfg.ownCells (thr d i)).erase (cellA d i)).erase (cellB d i)).erase (cellC d i)) \ chunkCells d i) fun g => semVal g 0) := by
  unfold SparseCore.Cfg.ownSems0
  rw [SparseCore.bigSep_erase' (cell_mem d i cc1_scoped0.sem (by decide)),
    SparseCore.bigSep_erase' (Finset.mem_erase.mpr ⟨by simp [cellA, cellB]; decide, cell_mem d i cc1_scoped1.sem (by decide)⟩),
    SparseCore.bigSep_erase' (Finset.mem_erase.mpr ⟨by simp [cellB, cellC]; decide, Finset.mem_erase.mpr ⟨by simp [cellA, cellC]; decide,
      cell_mem d i cc1_scoped2.sem (by decide)⟩⟩),
    SparseCore.bigSep_sdiff_split' (chunkCells_sub d i),
    show (bigSep (chunkCells d i) fun g => (semVal g 0 : sProp 𝕄)) = bigSep Finset.univ fun n : Fin 32 => semVal (cell d i n) 0 from bigSep_map _]

/-- A buffer of the tile's. -/
abbrev bufOf (b : Ref sig .scVector) : DevRef τ sig := (Proc.scVector ((i 0).castLE hcore1) ((i 1).castLE hsub1)).devRef b

theorem buf_mem (b : Ref sig .scVector) (h : (bufOf i b).owner = .proc (Proc.scVector ((i 0).castLE hcore1) ((i 1).castLE hsub1))) :
    bufOf i b ∈ SparseCore.Cfg.ownRefs (τ := τ) (.scVector ((i 0).castLE hcore1) ((i 1).castLE hsub1)) :=
  SparseCore.Cfg.mem_ownRefs_of_owner h

theorem buf_ne {a b : Ref sig .scVector} (h : a ≠ b) : bufOf i a ≠ bufOf i b := fun e => h (Proc.devRef_injective _ e)

/-- The five scratch buffers are among the tile's own: they are them, at some contents, and the rest. -/
theorem ownBufs_V :
    (SparseCore.Cfg.ownBufs (thr d i) : sProp 𝕄)
      = iprop((∃ f, p6 d i f) ∗ (∃ f, p7 d i f) ∗ (∃ f, p8 d i Finset.univ f) ∗ (∃ f, p9 d i Finset.univ f)
          ∗ (∃ f, (m10).view.loc (thr d i) ↦{fullShare} f)
          ∗ bigSep ((((((SparseCore.Cfg.ownRefs (τ := τ) (.scVector ((i 0).castLE hcore1) ((i 1).castLE hsub1))).erase (bufOf i cc1_scratch0)).erase
              (bufOf i cc1_scratch1)).erase (bufOf i cc1_scratch2)).erase (bufOf i cc1_scratch3)).erase (bufOf i cc1_scratch4))
              fun b => iprop(∃ f, ((d, b) : Loc nD τ sig) ↦{fullShare} f)) := by
  unfold SparseCore.Cfg.ownBufs
  refine (SparseCore.bigSep_erase' (buf_mem i cc1_scratch0 rfl)).trans ?_
  rw [SparseCore.bigSep_erase' (Finset.mem_erase.mpr ⟨buf_ne i (by decide), buf_mem i cc1_scratch1 rfl⟩),
    SparseCore.bigSep_erase' (Finset.mem_erase.mpr ⟨buf_ne i (by decide), Finset.mem_erase.mpr ⟨buf_ne i (by decide), buf_mem i cc1_scratch2 rfl⟩⟩),
    SparseCore.bigSep_erase' (Finset.mem_erase.mpr ⟨buf_ne i (by decide), Finset.mem_erase.mpr ⟨buf_ne i (by decide), Finset.mem_erase.mpr ⟨buf_ne i (by decide),
      buf_mem i cc1_scratch3 rfl⟩⟩⟩),
    SparseCore.bigSep_erase' (Finset.mem_erase.mpr ⟨buf_ne i (by decide), Finset.mem_erase.mpr ⟨buf_ne i (by decide), Finset.mem_erase.mpr ⟨buf_ne i (by decide),
      Finset.mem_erase.mpr ⟨buf_ne i (by decide), buf_mem i cc1_scratch4 rfl⟩⟩⟩⟩)]
  rfl

/-! ## The tile's task -/

/-- The tile's rows of an array of one number per row. -/
def myRows (t : S131072.Idx → F .f32) : S4096.Idx → F .f32 := fun y => t ((Rect.unit (s := S131072) (k1_off1 i) S4096.size (k1_off1_inb i)).emb y)

/-- The tile's sixteen sums. -/
def mySums (x : S16777216.Idx → F .f32) (t e : S131072.Idx → F .f32) : FVec F S16 .f32 :=
  accTo (lookedUp i x (myRows i t)) (myRows i e) 256

/-- The tile's rows of the times, of the events, and its row of the result. -/
abbrev pt (t : S131072.Idx → F .f32) : sProp 𝕄 :=
  (rowsRef i tM).view.loc (thr d i) ↦[(rowsRef i tM).view.set]{fullShare} (t : Buf (Elt F) ((tM).view.loc (thr d i)))
abbrev pe (t : S131072.Idx → F .f32) : sProp 𝕄 :=
  (rowsRef i eM).view.loc (thr d i) ↦[(rowsRef i eM).view.set]{fullShare} (t : Buf (Elt F) ((eM).view.loc (thr d i)))
abbrev po (o : S32x16.Idx → F .f32) : sProp 𝕄 :=
  (outRef i oM).view.loc (thr d i) ↦[(outRef i oM).view.set]{fullShare} (o : Buf (Elt F) ((oM).view.loc (thr d i)))

/-- The tile whose row of the result is `r`. -/
def tileOf (r : Fin 32) : grid1.Coords :=
  fun | 0 => (⟨r.val % 2, Nat.mod_lt _ (by decide)⟩ : Fin 2) | 1 => (⟨r.val / 2, by have := r.isLt; omega⟩ : Fin 16) | ⟨_ + 2, h⟩ => absurd h (Nat.not_lt.2 (Nat.le_add_left _ _))

theorem tileOf_wid : tileOf ⟨wid i, wid_lt i⟩ = i := by
  have h0 : (i 0).val < 2 := (i 0).isLt
  funext a
  match a with
  | 0 => exact Fin.ext (show (2 * (i 1).val + (i 0).val) % 2 = (i 0).val by omega)
  | 1 => exact Fin.ext (show (2 * (i 1).val + (i 0).val) / 2 = (i 1).val by omega)

/-- All tiles' sums. -/
def allSums (x : S16777216.Idx → F .f32) (t e : S131072.Idx → F .f32) : S32x16.Idx → F .f32 :=
  fun y => mySums (tileOf (y 0)) x t e (ix1 (y 1))

theorem outRef_emb (z : S16.Idx) : (outRef i oM).view.emb z = (ix2 (⟨wid i, wid_lt i⟩ : Fin 32) (z 0) : S32x16.Idx) := by
  show (Rect.unit (s := S32x16) (k1_off2 i) S1x16.size (k1_off2_inb i)).emb (Shape.reshapeEquiv squeezes_S1x16_S16.numel_eq z) = _
  rw [Shape.reshapeEquiv_eq_of_rowMajor (y := (ix2 (0 : Fin 1) (z 0) : S1x16.Idx)) _ (by
    rw [Shape.rowMajor_val_two, Shape.rowMajor_val_one]; show 0 * 16 + (z 0).val = (z 0).val; omega)]
  funext a
  apply Fin.ext
  rw [Rect.emb_apply]
  match a with
  | 0 => show (k1_off2 i) 0 + 1 * 0 = wid i; rw [k1_off2_eq]; rfl
  | 1 => show (k1_off2 i) 1 + 1 * (z 0).val = (z 0).val; rw [k1_off2_eq]; show 0 + 1 * (z 0).val = _; omega

/-- The tile's row written with its sums holds what all tiles' sums have there. -/
theorem out_eq (x : S16777216.Idx → F .f32) (t e : S131072.Idx → F .f32) (o : S32x16.Idx → F .f32) (w : FVec F S16 .f32) (hw : w = mySums i x t e)
    (y : S32x16.Idx) (hy : y ∈ (outRef i oM).view.set) :
    (outRef i oM).view.writes (Elt F) (o : Buf (Elt F) ((oM).view.loc (thr d i))) [⟨Rect.whole S16, w⟩] y = allSums x t e y := by
  obtain ⟨z, -, rfl⟩ := Finset.mem_map.mp hy
  subst hw
  have h := View.read_writes_cons_emb (Val := Elt F) (outRef i oM).view o (Rect.whole S16) (mySums i x t e) [] z
  rw [View.read_apply, cast_eq, show (Rect.whole S16).emb z = z from by
    funext a; apply Fin.ext; rw [Rect.emb_apply]; show 0 + 1 * (z a).val = _; omega] at h
  refine h.trans ?_
  rw [outRef_emb]
  unfold allSums
  show _ = mySums (tileOf ⟨wid i, wid_lt i⟩) x t e (ix1 (z 0))
  rw [tileOf_wid]
  congr 1
  exact eq_ix1 z

theorem landed6 (g : S4096.Idx → F .f32) (t : S131072.Idx → F .f32) :
    (m6).view.write (Elt F) (g : Buf (Elt F) ((m6).view.loc (thr d i))) ((rowsRef i tM).view.read (Elt F) (t : Buf (Elt F) ((tM).view.loc (thr d i)))) Finset.univ
      = myRows i t :=
  (View.write_whole_univ _ _ _).trans rfl

theorem landed7 (g : S4096.Idx → F .f32) (t : S131072.Idx → F .f32) :
    (m7).view.write (Elt F) (g : Buf (Elt F) ((m7).view.loc (thr d i))) ((rowsRef i eM).view.read (Elt F) (t : Buf (Elt F) ((eM).view.loc (thr d i)))) Finset.univ
      = myRows i t :=
  (View.write_whole_univ _ _ _).trans rfl

omit [FloatOps F] in
theorem landed10 (d : Dev nD) (i : grid1.Coords) (g v : S16.Idx → F .f32) :
    (ReadAs.same (Val := Elt F)).apply ((m10).view.read (Elt F) ((m10).view.writes (Elt F) (g : Buf (Elt F) ((m10).view.loc (thr d i)))
      [⟨Rect.unit (s := S16) ![0] S16.size inb_S16_S16_0, shapeCast S16 (α := F .f32) v shapeCasts_S16_S16⟩])) = v := by
  show (m10).view.read (Elt F) _ = v
  funext z
  have h := View.read_writes_cons_emb (Val := Elt F) (m10).view (g : Buf (Elt F) ((m10).view.loc (thr d i))) (Rect.unit (s := S16) ![0] S16.size inb_S16_S16_0)
    (shapeCast S16 (α := F .f32) v shapeCasts_S16_S16) [] z
  rw [show (Rect.unit (s := S16) ![0] S16.size inb_S16_S16_0).emb z = z from by
    funext a; apply Fin.ext; rw [Rect.emb_apply]; match a with | 0 => show 0 + 1 * (z 0).val = _; omega] at h
  refine h.trans ?_
  rw [shapeCast_self]

set_option maxHeartbeats 4000000 in
/-- The task of a tile: from its share of the indexed array, its rows of the times and events and its row of the result,
    it comes back with the same and its row holding its sums. -/
theorem tile_body (hF : (K (F := F)).Facts) (t e : S131072.Idx → F .f32) (o : S32x16.Idx → F .f32) (hO : ∀ g, O g none = 0) :
    iprop(levAts (K (F := F)).L (K (F := F)).lev ∗ emp
        ∗ (px d i q x ∗ pt d i t ∗ pe d i e ∗ po d i o)
        ∗ scopedBufs (thr d i) ∗ scopedSems0 (thr d i) ∗ owes (thr d i) O W)
      ⊢ wp frame (wpE (defs₀ (F := F)) 𝒱₀ (thr d i) none) Set.univ
          (Rolled.body i xM tM eM oM m6 (Memref.isWhole_whole _) m7 (Memref.isWhole_whole _) m8 m9 m10 (Memref.isWhole_whole _) cc1_scratch5
            cc1_scoped0 cc1_scoped1 cc1_scoped2)
          fun _ => iprop((px d i q x ∗ pt d i t ∗ pe d i e ∗ po d i (allSums x t e))
            ∗ scopedBufs (thr d i) ∗ scopedSems0 (thr d i)
            ∗ ∃ W', ⌜∀ p ∈ W', p ∈ W ∨ p.2 = none⌝ ∗ owes (thr d i) O W') := by
  rw [(K (F := F)).scopedBufs_V hF d, SparseCore.Cfg.scopedSems0_V (Val := Elt F) d, ownSems0_V, ownBufs_V]
  unfold Rolled.body
  iintro ⟨#Hlv, -, ⟨Hx, Ht, He, Ho⟩, ⟨⟨%g6, H6⟩, ⟨%g7, H7⟩, ⟨%g8, H8⟩, ⟨%g9, H9⟩, ⟨%g10, H10⟩, Hbufs⟩, ⟨HsA, HsB, HsC, Hch, Hsems⟩, HO⟩
  ihave #Hmw := (show levAts (K (F := F)).L (K (F := F)).lev ⊢ Transfers.MayWaits (thr d i) (default : HIx 1) O from
    (K (F := F)).mayWaits_none (thr := thr d i) hO) $$ Hlv
  generalize hrest : issueChunks (F := F) i xM m6 m8 m9 cc1_scratch5 (rowBase i) 32 le_rfl _ = rest
  sl_exec
  subst hrest
  ihave H6' := (Entails.of_eq (congrArg (fun f => (p6 d i f : sProp 𝕄)) (show (m6).view.write (Elt F) (g6 : Buf (Elt F) ((m6).view.loc (thr d i))) (tile_body.sl.dma0 i t) Finset.univ = myRows i t from landed6 i g6 t))) $$ H6
  ihave H7' := (Entails.of_eq (congrArg (fun f => (p7 d i f : sProp 𝕄)) (show (m7).view.write (Elt F) (g7 : Buf (Elt F) ((m7).view.loc (thr d i))) (tile_body.sl.dma0_1 i e) Finset.univ = myRows i e from landed7 i g7 e))) $$ H7
  ihave Hx' := (Transfers.pointsTo_toks q 32).1 $$ Hx
  icases Hx' with ⟨Hx0, Hxs⟩
  ihave Hpend := (pend_all d i q x (myRows i t) g9 g8) $$ [H9 H8 Hch Hxs]
  · isplitl [H9]; · iexact H9
    isplitl [H8]; · iexact H8
    isplitl [Hch]; · iexact Hch
    iexact Hxs
  iapply (wp_issueChunks d i q x (myRows i t) g9 g8 32 le_rfl _) $$ [H6' Hpend]
  · isplitl [H6']; · iexact H6'
    iexact Hpend
  iintro ⟨H6, Hfly⟩
  ihave Hfly' := (Entails.of_eq (show (bigSep Finset.univ fun k : Fin 32 => if k.val < 32 then flying d i q x (myRows i t) k else pend d i q x g9 g8 k)
      = (bigSep Finset.univ fun k : Fin 32 => if k.val < 0 then done d i q x (myRows i t) k else flying d i q x (myRows i t) k : sProp 𝕄) from
    bigSep_congr fun k _ => (if_pos k.isLt).trans (if_neg (Nat.not_lt_zero _)).symm)) $$ Hfly
  have hW2 : ∀ p ∈ insert ((SemLoc.dma cc1_scoped1.sem : SemLoc sig), (default : HIx 1)) (insert ((SemLoc.dma cc1_scoped0.sem : SemLoc sig), (default : HIx 1)) W),
      p ∈ W ∨ p.2 = none := by
    intro p hp
    rcases Finset.mem_insert.mp hp with hp | hp; · exact .inr (hp ▸ rfl)
    rcases Finset.mem_insert.mp hp with hp | hp; · exact .inr (hp ▸ rfl)
    exact .inl hp
  iapply (wp_sumChunks d i q x (myRows i t) (myRows i e) O W 32 le_rfl _) $$ [H7' HO Hfly']
  · isplitr; · iexact Hmw
    isplitl [H7']; · iexact H7'
    isplitl [HO]
    · unfold owed; iexists _; isplitr
      swap; · iexact HO
      ipureintro; exact hW2
    iexact Hfly'
  iintro ⟨H7, HO, Hdone⟩
  unfold owed
  icases HO with ⟨%W', %hW', HO⟩
  ihave Hd := (done_all d i q x (myRows i t)) $$ Hdone
  icases Hd with ⟨⟨H9, Hxs, H8⟩, Hch⟩
  ihave Hx := (Transfers.pointsTo_toks q 32).2 $$ [Hx0 Hxs]
  · isplitl [Hx0]; · iexact Hx0
    iexact Hxs
  sl_exec
  have hw : (tile_body.sl.dma2 d i x t e g10 : FVec F S16 .f32) = mySums i x t e := by
    unfold tile_body.sl.dma2 tile_body.sl.H10_1
    exact landed10 d i g10 _
  ihave Ho' := (Entails.of_eq (show _ = po d i (allSums x t e) from pointsTo_congr (out_eq i x t e o _ hw))) $$ Ho
  sl_step
  isplitl [Hx Ht He Ho']
  · isplitl [Hx]; · iexact Hx
    isplitl [Ht]; · iexact Ht
    isplitl [He]; · iexact He
    iexact Ho'
  isplitl [H6 H7 H8 H9 H10 Hbufs]
  · isplitl [H6]; · iexists _; iexact H6
    isplitl [H7]; · iexists _; iexact H7
    isplitl [H8]; · iexists _; iexact H8
    isplitl [H9]; · iexists _; iexact H9
    isplitl [H10]; · iexists _; iexact H10
    iexact Hbufs
  isplitl [HsA HsB HsC Hch Hsems]
  · isplitl [HsA]; · iexact HsA
    isplitl [HsB]; · iexact HsB
    isplitl [HsC]; · iexact HsC
    isplitl [Hch]; · iexact Hch
    iexact Hsems
  iexists _; isplitr
  swap; · iexact HO
  ipureintro; intro p hp
  rcases Finset.mem_insert.mp hp with hp | hp; · exact .inr (hp ▸ rfl)
  exact hW' p hp

end Thread

end Cert.Proof.Tile
-- ==== Proof.Tasks.lean ====
module
public import proofs.«01_k».proof.Proof.Tile
public import Idealize.ShloMosaic.Lib.ShareLeaves

@[expose] public section

noncomputable section

namespace Cert.Proof.Tasks

open Cert.KernelIdeal Cert.KernelIdeal.Gen Cert.Proof.Base Cert.Proof.Rolled Cert.Proof.Tile
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ShareLeaves Idealize.ShloMosaic.ValueIdx

variable {F : FTy → Type}

local notation "𝕄" => MT nD τ sig (HIx 1) (Elt F) ℕ UU ℕ
local notation "xM" => (Memref.whole Cert.KernelIdeal.main_v7_scv : Memref Cert.KernelIdeal.sig Kind.scVector Space.hbm Cert.KernelIdeal.S16777216 EltTy.f32)
local notation "tM" => (Memref.whole Cert.KernelIdeal.main_arg2_scv : Memref Cert.KernelIdeal.sig Kind.scVector Space.hbm Cert.KernelIdeal.S131072 EltTy.f32)
local notation "eM" => (Memref.whole Cert.KernelIdeal.main_v0_scv : Memref Cert.KernelIdeal.sig Kind.scVector Space.hbm Cert.KernelIdeal.S131072 EltTy.f32)
local notation "oM" => (Memref.whole Cert.KernelIdeal.main_v8_scv : Memref Cert.KernelIdeal.sig Kind.scVector Space.hbm Cert.KernelIdeal.S32x16 EltTy.f32)
local notation "m6" => (Memref.whole Cert.KernelIdeal.cc1_scratch0 : Memref Cert.KernelIdeal.sig Kind.scVector Space.vmem Cert.KernelIdeal.S4096 EltTy.f32)
local notation "m7" => (Memref.whole Cert.KernelIdeal.cc1_scratch1 : Memref Cert.KernelIdeal.sig Kind.scVector Space.vmem Cert.KernelIdeal.S4096 EltTy.f32)
local notation "m8" => (Memref.whole Cert.KernelIdeal.cc1_scratch2 : Memref Cert.KernelIdeal.sig Kind.scVector Space.vmem Cert.KernelIdeal.S4096 EltTy.i32)
local notation "m9" => (Memref.whole Cert.KernelIdeal.cc1_scratch3 : Memref Cert.KernelIdeal.sig Kind.scVector Space.vmem Cert.KernelIdeal.S4096 EltTy.f32)
local notation "m10" => (Memref.whole Cert.KernelIdeal.cc1_scratch4 : Memref Cert.KernelIdeal.sig Kind.scVector Space.vmem Cert.KernelIdeal.S16 EltTy.f32)

/-! ## The tiles, and what each is handed -/

/-- The tile on SparseCore `c`, subcore `s`. -/
def tileAt (c : Fin 2) (s : Fin 16) : grid1.Coords :=
  fun | 0 => c | 1 => s | ⟨_ + 2, h⟩ => absurd h (Nat.not_lt.2 (Nat.le_add_left _ _))

/-- The tile's share of the indexed array: a thirty-second of it. -/
def xq (c : Fin 2) (s : Fin 16) : PosShare TreeShare := leaf 4 (leaf 1 fullShare c) s

variable [FloatOps F]

/-- What a tile holds: its share of `x`, its rows of `t` and `e`, its row of the result. -/
def share (d : Dev nD) (x : S16777216.Idx → F .f32) (t e : S131072.Idx → F .f32) (c : Fin 2) (s : Fin 16) (o : S32x16.Idx → F .f32) : sProp 𝕄 :=
  iprop(px d (tileAt c s) (xq c s) x ∗ pt d (tileAt c s) t ∗ pe d (tileAt c s) e ∗ po d (tileAt c s) o)

instance share_storable (d : Dev nD) (x : S16777216.Idx → F .f32) (t e : S131072.Idx → F .f32) (c : Fin 2) (s : Fin 16) (o : S32x16.Idx → F .f32) :
    BI.Storable (upEmb : UEmb _ 𝕄) (share d x t e c s o) := by unfold share; infer_instance

section Call

variable (X : Dev nD → S16777216.Idx → F .f32) (Tm Ev : Dev nD → S131072.Idx → F .f32) (O : Dev nD → S32x16.Idx → F .f32)

/-- The call: each core its sixteen tiles' shares, each tile its own; back with the tiles' sums. -/
def P : (K (F := F)).Pay (nD := nD) (Val := Elt F) (Name := ℕ) (U := UU) where
  st := fun q d c => match q with
    | 0 => bigSep Finset.univ fun s : Fin 16 => share d (X d) (Tm d) (Ev d) (Fin.cast nCore_zero c) s (O d)
  dn := fun q d c => match q with
    | 0 => bigSep Finset.univ fun s : Fin 16 => share d (X d) (Tm d) (Ev d) (Fin.cast nCore_zero c) s (allSums (X d) (Tm d) (Ev d))
  go := fun q d c s => match q with
    | 0 => share d (X d) (Tm d) (Ev d) (Fin.cast nCore_zero c) (Fin.cast nSub_zero s) (O d)
  td := fun q d c s => match q with
    | 0 => share d (X d) (Tm d) (Ev d) (Fin.cast nCore_zero c) (Fin.cast nSub_zero s) (allSums (X d) (Tm d) (Ev d))
  x := fun _ _ => iprop(emp)

instance P_storable : (P X Tm Ev O).IsStorable where
  st q d c := match q with
    | 0 => (inferInstance : BI.Storable (upEmb : UEmb _ 𝕄) (bigSep Finset.univ fun s : Fin 16 => share d (X d) (Tm d) (Ev d) (Fin.cast nCore_zero c) s (O d)))
  dn q d c := match q with
    | 0 => (inferInstance : BI.Storable (upEmb : UEmb _ 𝕄)
      (bigSep Finset.univ fun s : Fin 16 => share d (X d) (Tm d) (Ev d) (Fin.cast nCore_zero c) s (allSums (X d) (Tm d) (Ev d))))
  go q d c s := match q with
    | 0 => (inferInstance : BI.Storable (upEmb : UEmb _ 𝕄) (share d (X d) (Tm d) (Ev d) (Fin.cast nCore_zero c) (Fin.cast nSub_zero s) (O d)))
  td q d c s := match q with
    | 0 => (inferInstance : BI.Storable (upEmb : UEmb _ 𝕄)
      (share d (X d) (Tm d) (Ev d) (Fin.cast nCore_zero c) (Fin.cast nSub_zero s) (allSums (X d) (Tm d) (Ev d))))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's handout is its tiles'. -/
theorem vecSplit : (K (F := F)).VecSplit' (P X Tm Ev O) 0 := by
  intro d c
  show (bigSep Finset.univ fun s : Fin 16 => share d (X d) (Tm d) (Ev d) (Fin.cast nCore_zero c) s (O d)) ⊢ |={Set.univ}=> iprop(
      (bigSep Finset.univ fun i : Fin ((K (F := F)).nSub 0) => share d (X d) (Tm d) (Ev d) (Fin.cast nCore_zero c) (Fin.cast nSub_zero i) (O d))
      ∗ ((bigSep Finset.univ fun i : Fin ((K (F := F)).nSub 0) =>
            share d (X d) (Tm d) (Ev d) (Fin.cast nCore_zero c) (Fin.cast nSub_zero i) (allSums (X d) (Tm d) (Ev d)))
          -∗ (bigSep Finset.univ fun s : Fin 16 => share d (X d) (Tm d) (Ev d) (Fin.cast nCore_zero c) s (allSums (X d) (Tm d) (Ev d)))))
  rw [bigSep_tasks (F := F) (fun s => share d (X d) (Tm d) (Ev d) (Fin.cast nCore_zero c) s (O d)),
    bigSep_tasks (F := F) (fun s => share d (X d) (Tm d) (Ev d) (Fin.cast nCore_zero c) s (allSums (X d) (Tm d) (Ev d)))]
  iintro H; imodintro
  isplitl [H]; · iexact H
  iintro H
  iexact H

/-! ## The task as the launch asks for it -/

theorem defs₀_vector (c : Fin τ.nSC) (s : Fin τ.nSub) :
    defs₀ (F := F) (.scVector c s) 1 ()
      = SparseCore.onTile hcore1 hsub1 (fun c s => cc1__sc_body (tileAt c s) xM (Memref.isWhole_whole _) tM (Memref.isWhole_whole _) eM (Memref.isWhole_whole _)
          oM (Memref.isWhole_whole _) m6 (Memref.isWhole_whole _) m7 (Memref.isWhole_whole _) m8 (Memref.isWhole_whole _) m9 (Memref.isWhole_whole _)
          m10 (Memref.isWhole_whole _) cc1_scratch5 cc1_scoped0 cc1_scoped1 cc1_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

attribute [local irreducible] Rolled.body

set_option maxRecDepth 16384 in
theorem tileObl : (K (F := F)).TileObl (D (F := F)) 𝒱 (P X Tm Ev O) v₀ 0 := by
  intro d c i Ow W hO _ _
  simp only [show (P X Tm Ev O).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [sc_body_eq]
  have h := tile_body d (tileAt ⟨_, hci.1⟩ ⟨_, hci.2⟩) (xq (Fin.cast nCore_zero c) (Fin.cast nSub_zero i)) (X d) Ow W facts (Tm d) (Ev d) (O d) hO
  refine BIBase.Entails.trans (Q := _) ?_ (h.trans ?_)
  · unfold P share
    exact BIBase.Entails.rfl
  · change _ ⊢ wp frame (wpE (defs₀ (F := F)) 𝒱₀ (thr d (tileAt ⟨_, hci.1⟩ ⟨_, hci.2⟩)) none) Set.univ _ _
    refine wp_mono frame _ _ fun _ => ?_
    unfold P share
    exact obl_post

end Call

/-! ## The arrays, dealt to the tiles and taken back -/

omit [FloatOps F] in
theorem mem_rowsT (i : grid1.Coords) (y : S131072.Idx) : y ∈ (rowsRef i tM).view.set ↔ (y 0).val / 4096 = wid i := by
  rw [show (rowsRef i tM).view.set = (Rect.unit (s := S131072) (k1_off1 i) S4096.size (k1_off1_inb i)).set from
    (View.set_slice _ _).trans Finset.map_refl, Rect.mem_set_unit, Fin.forall_fin_one, k1_off1_eq]
  show 8192 * (i 1).val + 4096 * (i 0).val ≤ (y 0).val ∧ (y 0).val < 8192 * (i 1).val + 4096 * (i 0).val + 4096 ↔ (y 0).val / 4096 = 2 * (i 1).val + (i 0).val
  omega

omit [FloatOps F] in
theorem mem_rowsE (i : grid1.Coords) (y : S131072.Idx) : y ∈ (rowsRef i eM).view.set ↔ (y 0).val / 4096 = wid i := mem_rowsT i y

omit [FloatOps F] in
theorem mem_out (i : grid1.Coords) (y : S32x16.Idx) : y ∈ (outRef i oM).view.set ↔ (y 0).val = wid i := by
  constructor
  · intro h
    obtain ⟨z, -, rfl⟩ := Finset.mem_map.mp h
    rw [outRef_emb]
  · intro h
    refine Finset.mem_map.mpr ⟨ix1 (y 1), Finset.mem_univ _, ?_⟩
    rw [outRef_emb]
    refine Eq.trans ?_ (eq_ix2 y).symm
    congr 1
    exact Fin.ext h.symm

omit [FloatOps F] in
theorem set_src : (srcRef xM).view.set = (Finset.univ : Finset S16777216.Idx) := by
  rw [show (srcRef xM).view.set = (Rect.unit (s := S16777216) ![0] S16777216.size inb_S16777216_S16777216_0).set from
    (View.set_slice _ _).trans Finset.map_refl]
  ext y
  rw [Rect.mem_set_unit, Fin.forall_fin_one]
  have := (y 0).isLt
  exact ⟨fun _ => Finset.mem_univ _, fun _ => ⟨Nat.zero_le _, by show (y 0).val < 0 + _; omega⟩⟩

omit [FloatOps F] in
theorem wid_tileAt (c : Fin 2) (s : Fin 16) : wid (tileAt c s) = 2 * s.val + c.val := rfl

omit [FloatOps F] in
/-- An array whose elements each belong to one tile, held whole, is held by the tiles. -/
theorem deal {ℓ : Loc nD τ sig} (S : grid1.Coords → Finset (Idx ℓ)) (own : Idx ℓ → ℕ) (hlt : ∀ y, own y < 32) (h : ∀ i y, y ∈ S i ↔ own y = wid i)
    (f : Buf (Elt F) ℓ) :
    (ℓ ↦{fullShare} f : sProp 𝕄) = bigSep Finset.univ fun c : Fin 2 => bigSep Finset.univ fun s : Fin 16 => ℓ ↦[S (tileAt c s)]{fullShare} f := by
  rw [← BI.bigSep_univ_prod (fun p : Fin 2 × Fin 16 => (ℓ ↦[S (tileAt p.1 p.2)]{fullShare} f : sProp 𝕄)),
    ← pointsTo_biUnion Finset.univ (ℓ := ℓ) (fun p : Fin 2 × Fin 16 => S (tileAt p.1 p.2)) (fun p _ p' _ hne => Finset.disjoint_left.mpr fun y hy hy' => hne (by
      have h1 := (h _ y).mp hy
      have h2 := (h _ y).mp hy'
      rw [wid_tileAt] at h1 h2
      have := p.1.isLt; have := p'.1.isLt
      exact Prod.ext (Fin.ext (by omega)) (Fin.ext (by omega)))),
    show (Finset.univ : Finset (Fin 2 × Fin 16)).biUnion (fun p => S (tileAt p.1 p.2)) = Finset.univ from by
      ext y
      refine ⟨fun _ => Finset.mem_univ _, fun _ => Finset.mem_biUnion.mpr ⟨(⟨own y % 2, Nat.mod_lt _ (by decide)⟩, ⟨own y / 2, by have := hlt y; omega⟩), Finset.mem_univ _, ?_⟩⟩
      rw [h, wid_tileAt]
      show own y = 2 * (own y / 2) + own y % 2
      omega]

omit [FloatOps F] in
theorem deal_x {ℓ : Loc nD τ sig} (f : Buf (Elt F) ℓ) :
    (ℓ ↦{fullShare} f : sProp 𝕄) = bigSep Finset.univ fun c : Fin 2 => bigSep Finset.univ fun s : Fin 16 => ℓ ↦{xq c s} f := by
  rw [pointsTo_leaves Finset.univ f 1 fullShare]
  exact bigSep_congr fun c _ => pointsTo_leaves Finset.univ f 4 _

/-- The four arrays of the call, whole, are the tiles' shares of them. -/
theorem deal_all (d : Dev nD) (x : S16777216.Idx → F .f32) (t e : S131072.Idx → F .f32) (o : S32x16.Idx → F .f32) :
    iprop(((SparseCore.T d).loc main_v7 ↦{fullShare} (x : Buf (Elt F) ((SparseCore.T d).loc main_v7))) ∗ ((SparseCore.T d).loc main_arg2 ↦{fullShare} (t : Buf (Elt F) ((SparseCore.T d).loc main_arg2)))
        ∗ ((SparseCore.T d).loc main_v0 ↦{fullShare} (e : Buf (Elt F) ((SparseCore.T d).loc main_v0))) ∗ ((SparseCore.T d).loc main_v8 ↦{fullShare} (o : Buf (Elt F) ((SparseCore.T d).loc main_v8))))
      = (bigSep Finset.univ fun c : Fin 2 => bigSep Finset.univ fun s : Fin 16 => share d x t e c s o : sProp 𝕄) := by
  unfold share
  simp only [bigSep_sep']
  congr 1
  · refine (deal_x (ℓ := (SparseCore.T d).loc main_v7) x).trans (bigSep_congr fun c _ => bigSep_congr fun s _ => ?_)
    unfold px
    rw [set_src]
  congr 1
  · exact deal (ℓ := (SparseCore.T d).loc main_arg2) (fun i => (rowsRef i tM).view.set) (fun y => (y 0).val / 4096) (fun y => by have : (y 0).val < 131072 := (y 0).isLt; omega) mem_rowsT t
  congr 1
  · exact deal (ℓ := (SparseCore.T d).loc main_v0) (fun i => (rowsRef i eM).view.set) (fun y => (y 0).val / 4096) (fun y => by have : (y 0).val < 131072 := (y 0).isLt; omega) mem_rowsE e
  · exact deal (ℓ := (SparseCore.T d).loc main_v8) (fun i => (outRef i oM).view.set) (fun y => (y 0).val) (fun y => (y 0).isLt) mem_out o

end Cert.Proof.Tasks
-- ==== Proof.Launch.lean ====
module
public import proofs.«01_k».proof.Proof.TcRegion
public import proofs.«01_k».proof.Proof.Tasks

@[expose] public section

noncomputable section

namespace Cert.Proof.Launch

open Cert.KernelIdeal Cert.KernelIdeal.Gen Cert.Proof.Base Cert.Proof.Tile Cert.Proof.Tasks Cert.Proof.TcRegion
open Idealize.ShloMosaic Idealize.ShloMosaic.TcCoe
open Idealize.ShloMosaic.SparseCore (S V)
open Idealize.ShloMosaic.SparseCore.Cfg (HIx Pay)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## `@main`'s operations -/

/-- The operations before the TensorCore call: the events as floats, the bins' lower edges, the transposed times. -/
abbrev before : List (HloOp τ sig (Elt F)) :=
  [StableHlo.nullary main_cst (constant S1 .f32 0x7F800000#32),
   StableHlo.unary main_arg1 main_v0 (sitofp .f32 : (⟨S131072, .i32⟩ : BufTy).Contents (Elt F) → (⟨S131072, .f32⟩ : BufTy).Contents (Elt F)),
   StableHlo.unary main_cst main_v1 (Host.negf : (⟨S1, .f32⟩ : BufTy).Contents (Elt F) → (⟨S1, .f32⟩ : BufTy).Contents (Elt F)),
   StableHlo.binary main_v1 main_arg3 main_v2 ((fun a b => concatenate S128 0 [⟨S1, a⟩, ⟨S127, b⟩] concatenates_S1_S127_S128_d0) : (⟨S1, .f32⟩ : BufTy).Contents (Elt F) → (⟨S127, .f32⟩ : BufTy).Contents (Elt F) → (⟨S128, .f32⟩ : BufTy).Contents (Elt F)),
   StableHlo.reshape main_v2 main_v3 (rfl : (.f32 : EltTy) = .f32) shapeCasts_S128_S1x128,
   StableHlo.reshape main_arg2 main_v4 (rfl : (.f32 : EltTy) = .f32) shapeCasts_S131072_S1024x128,
   StableHlo.unary main_v4 main_v5 ((transpose S128x1024 [1, 0] · transposes_S1024x128_S128x1024_1_0) : (⟨S1024x128, .f32⟩ : BufTy).Contents (Elt F) → (⟨S128x1024, .f32⟩ : BufTy).Contents (Elt F))]

/-- The logits, flat. -/
abbrev flat : List (HloOp τ sig (Elt F)) :=
  [StableHlo.reshape main_arg0 main_v7 (rfl : (.f32 : EltTy) = .f32) shapeCasts_S131072x128_S16777216]

/-- The operations after the SparseCore call: its sums added up, taken from the TensorCore's, divided by the rows. -/
abbrev last : List (HloOp τ sig (Elt F)) :=
  [StableHlo.reshape main_v6 main_v9 (rfl : (.f32 : EltTy) = .f32) shapeCasts_S1x1_S_,
   StableHlo.nullary main_cst_0 (constant S_ .f32 0x00000000#32),
   StableHlo.binary main_v8 main_cst_0 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.binary main_v9 main_v10 main_v11 (subf : (⟨S_, .f32⟩ : BufTy).Contents (Elt F) → (⟨S_, .f32⟩ : BufTy).Contents (Elt F) → (⟨S_, .f32⟩ : BufTy).Contents (Elt F)),
   StableHlo.nullary main_cst_1 (constant S_ .f32 0x48000000#32),
   StableHlo.binary main_v11 main_cst_1 main_v12 (Host.divf : (⟨S_, .f32⟩ : BufTy).Contents (Elt F) → (⟨S_, .f32⟩ : BufTy).Contents (Elt F) → (⟨S_, .f32⟩ : BufTy).Contents (Elt F))]

theorem main_eq (d : Dev nD) : main (F := F) d
    = (seq before >>= fun _ => Prog.lift (.customCall (SparseCore.inner (Pipeline.entry 0)) ()) >>= fun _ => seq flat >>= fun _ =>
        sc.run d 0 >>= fun _ => seq last >>= fun _ => pure ⟨⟩) := by
  simp only [main, before, flat, last, seq, bind_assoc, pure_bind]

/-- Every array of an operation of a line is one of the TensorCore's unscoped arrays; none is fresh. -/
theorem before_sub : ∀ op ∈ before (F := F), op.bufs ⊆ Pipeline.ucRefs τ sig := by
  intro op h
  simp only [before, List.mem_cons, List.not_mem_nil, or_false] at h
  rcases h with rfl | rfl | rfl | rfl | rfl | rfl | rfl <;> refine Pipeline.sub_ucRefs _ ?_
  exacts [StableHlo.nullary_bufs_sub .., StableHlo.unary_bufs_sub .., StableHlo.unary_bufs_sub .., StableHlo.binary_bufs_sub .., StableHlo.reshape_bufs_sub ..,
    StableHlo.reshape_bufs_sub .., StableHlo.unary_bufs_sub ..]
theorem flat_sub : ∀ op ∈ flat (F := F), op.bufs ⊆ Pipeline.ucRefs τ sig := by
  intro op h
  simp only [flat, List.mem_cons, List.not_mem_nil, or_false] at h
  subst h
  exact Pipeline.sub_ucRefs _ (StableHlo.reshape_bufs_sub ..)
theorem last_sub : ∀ op ∈ last (F := F), op.bufs ⊆ Pipeline.ucRefs τ sig := by
  intro op h
  simp only [last, List.mem_cons, List.not_mem_nil, or_false] at h
  rcases h with rfl | rfl | rfl | rfl | rfl | rfl <;> refine Pipeline.sub_ucRefs _ ?_
  exacts [StableHlo.reshape_bufs_sub .., StableHlo.nullary_bufs_sub .., StableHlo.binary_bufs_sub .., StableHlo.binary_bufs_sub .., StableHlo.nullary_bufs_sub ..,
    StableHlo.binary_bufs_sub ..]
theorem before_fresh : ∀ op ∈ before (F := F), op.fresh = ∅ := by
  intro op h
  simp only [before, List.mem_cons, List.not_mem_nil, or_false] at h
  rcases h with rfl | rfl | rfl | rfl | rfl | rfl | rfl <;> rfl
theorem flat_fresh : ∀ op ∈ flat (F := F), op.fresh = ∅ := by
  intro op h
  simp only [flat, List.mem_cons, List.not_mem_nil, or_false] at h
  subst h; rfl
theorem last_fresh : ∀ op ∈ last (F := F), op.fresh = ∅ := by
  intro op h
  simp only [last, List.mem_cons, List.not_mem_nil, or_false] at h
  rcases h with rfl | rfl | rfl | rfl | rfl | rfl <;> rfl

/-! ## The arrays along `@main` -/

abbrev x' : DevRef τ sig := Proc.devRef .tc (main_v7 : Ref sig .tc)
abbrev t' : DevRef τ sig := Proc.devRef .tc (main_arg2 : Ref sig .tc)
abbrev e' : DevRef τ sig := Proc.devRef .tc (main_v0 : Ref sig .tc)
abbrev o' : DevRef τ sig := Proc.devRef .tc (main_v8 : Ref sig .tc)

/-- The SparseCore call's arrays. -/
abbrev S4 : Finset (DevRef τ sig) := {x', t', e', o'}

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after before (V0 m d)
def V2 (d : Dev nD) : Valuation τ sig (Elt F) := afterTc (V1 m) d
def V3 (d : Dev nD) : Valuation τ sig (Elt F) := after flat (V2 m d)

/-- What the SparseCore call reads, and its result array before it. -/
def Xv (d : Dev nD) : S16777216.Idx → F .f32 := V3 m d x'
def Tv (d : Dev nD) : S131072.Idx → F .f32 := V3 m d t'
def Ev (d : Dev nD) : S131072.Idx → F .f32 := V3 m d e'
def Ov (d : Dev nD) : S32x16.Idx → F .f32 := V3 m d o'
/-- The SparseCore call's result. -/
def Sv (d : Dev nD) : S32x16.Idx → F .f32 := allSums (Xv m d) (Tv m d) (Ev m d)

def V4 (d : Dev nD) : Valuation τ sig (Elt F) := Function.update (V3 m d) o' (Sv m d)
def V5 (d : Dev nD) : Valuation τ sig (Elt F) := after last (V4 m d)

abbrev PP : (K (F := F)).Pay (nD := nD) (Val := Elt F) (Name := ℕ) (U := UU) := P (Xv m) (Tv m) (Ev m) (Ov m)

theorem held_S4 (d : Dev nD) (W : Valuation τ sig (Elt F)) :
    (held (SparseCore.T d) S4 W : sProp 𝕄)
      = iprop(((SparseCore.T d).loc main_v7 ↦{fullShare} W x') ∗ ((SparseCore.T d).loc main_arg2 ↦{fullShare} W t')
          ∗ ((SparseCore.T d).loc main_v0 ↦{fullShare} W e') ∗ ((SparseCore.T d).loc main_v8 ↦{fullShare} W o')) := by
  unfold held S4
  rw [SparseCore.bigSep_insert' (by decide), SparseCore.bigSep_insert' (by decide), SparseCore.bigSep_insert' (by decide), bigSep_singleton]

theorem S4_sub : (S4 : Finset (DevRef τ sig)) ⊆ Pipeline.ucRefs τ sig := by
  intro b hb
  simp only [S4, Finset.mem_insert, Finset.mem_singleton] at hb
  rcases hb with rfl | rfl | rfl | rfl <;> exact Pipeline.devRef_mem_ucRefs rfl

theorem st_eq (d : Dev nD) : (held (SparseCore.T d) S4 (V3 m d) : sProp 𝕄) = bigSep Finset.univ fun c : Fin ((K (F := F)).nCore 0) => (PP m).st 0 d c := by
  refine (held_S4 d (V3 m d)).trans ((deal_all d (Xv m d) (Tv m d) (Ev m d) (Ov m d)).trans ?_)
  exact (bigSep_cores (F := F) (fun c => bigSep Finset.univ fun s : Fin 16 => share d (Xv m d) (Tv m d) (Ev m d) c s (Ov m d))).symm

theorem V4_out (d : Dev nD) : V4 m d o' = Sv m d := Function.update_self _ _ _
theorem V4_of_ne (d : Dev nD) (b : DevRef τ sig) (h : b ≠ o') : V4 m d b = V3 m d b := Function.update_of_ne h _ _

theorem dn_eq (d : Dev nD) : (bigSep Finset.univ fun c : Fin ((K (F := F)).nCore 0) => (PP m).dn 0 d c) = (held (SparseCore.T d) S4 (V4 m d) : sProp 𝕄) := by
  rw [held_S4, V4_out, V4_of_ne m d x' (by decide), V4_of_ne m d t' (by decide), V4_of_ne m d e' (by decide)]
  refine Eq.trans ?_ (deal_all d (Xv m d) (Tv m d) (Ev m d) (Sv m d)).symm
  exact bigSep_cores (F := F) (fun c => bigSep Finset.univ fun s : Fin 16 => share d (Xv m d) (Tv m d) (Ev m d) c s (Sv m d))

theorem rest_eq (d : Dev nD) : (held (SparseCore.T d) (Pipeline.ucRefs τ sig \ S4) (V3 m d) : sProp 𝕄) = held (SparseCore.T d) (Pipeline.ucRefs τ sig \ S4) (V4 m d) := by
  refine StableHlo.held_congr _ fun b hb => ?_
  refine (V4_of_ne m d b fun h => ?_).symm
  exact (Finset.mem_sdiff.mp hb).2 (by rw [h]; simp [S4])

/-! ## The launch's ghosts -/

/-- The launch's ghost: the handshakes' rounds, the staging cells' rounds. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What a TensorCore is given besides: the staging cells' rounds. -/
def G (d : Dev nD) : sProp 𝕄 :=
  iprop(Pipeline.cellsGhost (Pipeline.pin (pcfgs (F := F)) adm) EP 0 d ∗ Pipeline.toksInit (Pipeline.pin (pcfgs (F := F)) adm) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  · rw [bigSep_congr (fun thr _ => bigSep_univ_of_subsingleton (0 : Fin 1)), show (fun thr : Thread nD τ => (PP m).x 0 thr) = fun _ => iprop(emp) from rfl]
    iapply (Entails.of_eq (bigSep_emp_const (Finset.univ : Finset (Thread nD τ))).symm)
    iempintro

/-! ## `@main` on the TensorCore -/

/-- What `@main` leaves: every array, at its last contents. -/
abbrev FIN (d : Dev nD) : sProp 𝕄 := held (SparseCore.T d) (Pipeline.ucRefs τ sig) (V5 m d)

/-- The TensorCore's dues, out of its part of the launch's state and back. -/
theorem dues_out (d : Dev nD) : ((K (F := F)).tcSt EH d 0 : sProp 𝕄) ⊢ iprop(dues (F := F) d ∗ (dues (F := F) d -∗ (K (F := F)).tcSt EH d 0)) := by
  unfold SparseCore.Cfg.tcSt dues
  iintro ⟨Hd, Hr⟩
  isplitl [Hd]; · iexact Hd
  iintro Hd
  isplitl [Hd]; · iexact Hd
  iexact Hr

theorem unscoped_held (d : Dev nD) : (unscopedBufs d (fun b => m ((SparseCore.T d).loc b)) : sProp 𝕄) = held (SparseCore.T d) (Pipeline.ucRefs τ sig) (V0 m d) :=
  Pipeline.unscopedBufs_held d (V0 m d)

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscoped_held, main_eq]
  iintro ⟨#Hctx, Hst, ⟨Hb, Hh, Hts, -⟩, Hg, Ht⟩
  iapply (StableHlo.wp_seq 𝒱 none Set.univ d (Pipeline.ucRefs τ sig) _ before before_sub before_fresh (V0 m d)) $$ [Hb Hh]
  · isplitl [Hb] <;> iassumption
  iintro ⟨Hb, Hh⟩
  rw [wp_bind]
  ihave Hst' := (dues_out d) $$ Hst
  icases Hst' with ⟨Hd, Hst⟩
  ihave Hl := ((K (F := F)).ctx_levAts κ) $$ Hctx
  iapply (wp_region (V1 m) d)
  isplitl [Hl]; · iexact Hl
  isplitl [Hb]; · iexact Hb
  isplitl [Hh]; · iexact Hh
  isplitl [Hd]; · iexact Hd
  isplitl [Hg]; · iexact Hg
  isplitl [Ht]; · iexact Ht
  iintro ⟨Hb, Hh, Hd⟩
  ihave Hst := Hst $$ Hd
  iapply (StableHlo.wp_seq 𝒱 none Set.univ d (Pipeline.ucRefs τ sig) _ flat flat_sub flat_fresh (V2 m d)) $$ [Hb Hh]
  · isplitl [Hb]; · iexact Hb
    iexact Hh
  iintro ⟨Hb, Hh⟩
  rw [wp_bind]
  ihave Hh' := (Entails.of_eq (show held (SparseCore.T d) (Pipeline.ucRefs τ sig) (after flat (V2 m d)) = _ from
    StableHlo.held_sub_split (SparseCore.T d) S4_sub (V3 m d))) $$ Hh
  icases Hh' with ⟨H4, Hr⟩
  iapply ((K (F := F)).wp_run (D (F := F)) 𝒱 (EH := EH) (P := PP m) κ d 0)
  isplitr; · iexact Hctx
  isplitl [Hst]; · iexact Hst
  isplitl [H4]
  · iapply (Entails.of_eq (st_eq m d)) $$ H4
  iintro ⟨Hst, Hdn⟩
  ihave H4 := (Entails.of_eq (dn_eq m d)) $$ Hdn
  ihave Hr' := (Entails.of_eq (rest_eq m d)) $$ Hr
  iapply (StableHlo.wp_seq 𝒱 none Set.univ d (Pipeline.ucRefs τ sig) _ last last_sub last_fresh (V4 m d)) $$ [Hb H4 Hr']
  · isplitl [Hb]; · iexact Hb
    iapply (Entails.of_eq (StableHlo.held_sub_split _ S4_sub (V4 m d)).symm)
    isplitl [H4]; · iexact H4
    iexact Hr'
  iintro ⟨Hb, Hh⟩
  rw [wp_pure]; imodintro
  isplitl [Hst]; · iexact Hst
  isplitl [Hh]; · iexact Hh
  isplitl [Hb] <;> iassumption

/-! ## The final memory -/

/-- What the claims read of a device's final memory. -/
def fq (d : Dev nD) (s' : Phys nD τ sig (Elt F)) : Prop := ∀ b ∈ Pipeline.ucRefs τ sig, s'.mem.mem (d, b) = V5 m d b

theorem agree (d : Dev nD) (s' : Phys nD τ sig (Elt F)) (b : DevRef τ sig) (hb : b ∈ Pipeline.ucRefs τ sig) :
    iprop(FIN m d ∗ SI s') ⊢ (⌜s'.mem.mem (d, b) = V5 m d b⌝ : sProp 𝕄) := by
  iintro ⟨Hh, HSI⟩
  ihave Hb := (show held (SparseCore.T d) (Pipeline.ucRefs τ sig) (V5 m d) ⊢ (((d, b) : Loc nD τ sig) ↦{fullShare} V5 m d b : sProp 𝕄) from
    bigSep_elim (Φ := fun b => (((d, b) : Loc nD τ sig) ↦{fullShare} V5 m d b : sProp 𝕄)) hb) $$ Hh
  ihave H := (SI_pointsTo_agree (st := s') (ℓ := ((d, b) : Loc nD τ sig)) (I := Finset.univ) (q := fullShare) (f := V5 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) :=
  fun x hx b hb => (agree m d s' b hb) x hx

/-- Every run ends, with every array at its last contents and every semaphore at zero. -/
def QC : PUnit × MemSt nD τ sig (Elt F) → Prop :=
  fun r => (∀ d : Dev nD, ∀ b ∈ Pipeline.ucRefs τ sig, r.2.mem (d, b) = V5 m d b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Xv m) (Tv m) (Ev m) (Ov m))
    (fun q _ => match q with | 0 => SparseCore.Cfg.VecSplit.of_plain (vecSplit (Xv m) (Tv m) (Ev m) (Ov m)))
    m ρ main (G (F := F)) (FIN m) (u₀ (F := F)) (sep_elim_left.trans (hu₀ m)) (hmain m ρ) (fq m) (hfin m) (QC m) (fun _ h hz => ⟨h, hz⟩)

end Cert.Proof.Launch

end
-- ==== Proof.Result.lean ====
module
public import proofs.«01_k».proof.Proof.Launch
public import proofs.«01_k».proof.Proof.Gen.Kernel

@[expose] public section

noncomputable section

namespace Cert.Proof.Result

open Cert.KernelIdeal Cert.KernelIdeal.Gen Cert.Proof.Base Cert.Proof.Tile Cert.Proof.Tasks Cert.Proof.TcRegion Cert.Proof.Launch
open Idealize.ShloMosaic Idealize.ShloMosaic.TcCoe
open Idealize.ShloMosaic.StableHlo (after)
open Idealize.SL.Sem

variable {F : FTy → Type} [FloatOps F]
variable (m : (ℓ : Loc nD τ sig) → Buf (Elt F) ℓ) (ρ : Dev nD → PrngReg)

/-! ## What the arrays hold along `@main` -/

/-- The arrays written by the operations before the TensorCore call, and by those after the SparseCore call. -/
theorem before_writes (b : DevRef τ sig) (h : b ∉ ({Proc.devRef .tc main_cst, Proc.devRef .tc main_v0, Proc.devRef .tc main_v1, Proc.devRef .tc main_v2,
    Proc.devRef .tc main_v3, Proc.devRef .tc main_v4, Proc.devRef .tc main_v5} : Finset (DevRef τ sig))) : ∀ op ∈ before (F := F), b ∉ op.writes := by
  simp only [Finset.mem_insert, Finset.mem_singleton, not_or] at h
  obtain ⟨h0, h1, h2, h3, h4, h5, h6⟩ := h
  simp only [before, List.forall_mem_cons, StableHlo.nullary_writes, StableHlo.unary_writes, StableHlo.binary_writes, StableHlo.reshape_writes, Finset.mem_singleton]
  exact ⟨h0, h1, h2, h3, h4, h5, h6, fun _ h => nomatch h⟩
theorem last_writes (b : DevRef τ sig) (h : b ∉ ({Proc.devRef .tc main_v9, Proc.devRef .tc main_cst_0, Proc.devRef .tc main_v10, Proc.devRef .tc main_v11,
    Proc.devRef .tc main_cst_1, Proc.devRef .tc main_v12} : Finset (DevRef τ sig))) : ∀ op ∈ last (F := F), b ∉ op.writes := by
  simp only [Finset.mem_insert, Finset.mem_singleton, not_or] at h
  obtain ⟨h0, h1, h2, h3, h4, h5⟩ := h
  simp only [last, List.forall_mem_cons, StableHlo.nullary_writes, StableHlo.unary_writes, StableHlo.binary_writes, StableHlo.reshape_writes, Finset.mem_singleton]
  exact ⟨h0, h1, h2, h3, h4, h5, fun _ h => nomatch h⟩

theorem V2_of (d : Dev nD) (r : Ref sig .tc) (h : ∀ w, Pipeline.arrRef spec0 w = r → (cfg0.win w).isOut = false) :
    V2 m d (Proc.devRef .tc r) = V1 m d (Proc.devRef .tc r) := afterTc_keeps (V1 m) d r h

theorem V3_of (d : Dev nD) (r : Ref sig .tc) (h : r ≠ main_v7) : V3 m d (Proc.devRef .tc r) = V2 m d (Proc.devRef .tc r) :=
  StableHlo.reshape_result_ne _ _ _ _ _ _ _ h

/-- An array no operation and no call writes keeps its contents. -/
theorem kept (d : Dev nD) (r : Ref sig .tc) (h0 : (Proc.devRef .tc r : DevRef τ sig) ∉ ({Proc.devRef .tc main_cst, Proc.devRef .tc main_v0, Proc.devRef .tc main_v1, Proc.devRef .tc main_v2,
      Proc.devRef .tc main_v3, Proc.devRef .tc main_v4, Proc.devRef .tc main_v5} : Finset (DevRef τ sig)))
    (h1 : ∀ w, Pipeline.arrRef spec0 w = r → (cfg0.win w).isOut = false) (h2 : r ≠ main_v7) (h3 : (Proc.devRef .tc r : DevRef τ sig) ≠ o') :
    V3 m d (Proc.devRef .tc r) = m (d, Proc.devRef .tc r) :=
  (V3_of m d r h2).trans ((V2_of m d r h1).trans (StableHlo.after_of_forall_not_mem before _ (before_writes _ h0)))

theorem V5_of (d : Dev nD) (r : Ref sig .tc) (h3 : (Proc.devRef .tc r : DevRef τ sig) ≠ o')
    (h4 : (Proc.devRef .tc r : DevRef τ sig) ∉ ({Proc.devRef .tc main_v9, Proc.devRef .tc main_cst_0, Proc.devRef .tc main_v10, Proc.devRef .tc main_v11,
    Proc.devRef .tc main_cst_1, Proc.devRef .tc main_v12} : Finset (DevRef τ sig))) : V5 m d (Proc.devRef .tc r) = V3 m d (Proc.devRef .tc r) :=
  (StableHlo.after_of_forall_not_mem last _ (last_writes _ h4)).trans (V4_of_ne m d _ h3)

theorem V5_arg0 (d : Dev nD) : V5 m d (Proc.devRef .tc main_arg0) = m ((d.tc : Thread nD τ).loc main_arg0) :=
  (V5_of m d main_arg0 (by decide) (by decide)).trans (kept m d main_arg0 (by decide) (by decide) (by decide) (by decide))
theorem V5_arg1 (d : Dev nD) : V5 m d (Proc.devRef .tc main_arg1) = m ((d.tc : Thread nD τ).loc main_arg1) :=
  (V5_of m d main_arg1 (by decide) (by decide)).trans (kept m d main_arg1 (by decide) (by decide) (by decide) (by decide))
theorem V5_arg2 (d : Dev nD) : V5 m d (Proc.devRef .tc main_arg2) = m ((d.tc : Thread nD τ).loc main_arg2) :=
  (V5_of m d main_arg2 (by decide) (by decide)).trans (kept m d main_arg2 (by decide) (by decide) (by decide) (by decide))
theorem V5_arg3 (d : Dev nD) : V5 m d (Proc.devRef .tc main_arg3) = m ((d.tc : Thread nD τ).loc main_arg3) :=
  (V5_of m d main_arg3 (by decide) (by decide)).trans (kept m d main_arg3 (by decide) (by decide) (by decide) (by decide))

theorem run_args [∀ e, Nonempty (Elt F e)] : θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c _ (Pipeline.devRef_mem_ucRefs rfl)).trans (V5_arg0 m c), (h.1 c _ (Pipeline.devRef_mem_ucRefs rfl)).trans (V5_arg1 m c),
    (h.1 c _ (Pipeline.devRef_mem_ucRefs rfl)).trans (V5_arg2 m c), (h.1 c _ (Pipeline.devRef_mem_ucRefs rfl)).trans (V5_arg3 m c)⟩, h.2⟩) (run_main (F := F) m ρ)

theorem frameIdeal : Cert.quiescent_KernelIdeal := fun m g _ => run_args m g

/-! ## The program as printed is the same program -/

theorem defs₀_eq : Cert.Kernel.defs₀ (F := F) = defs₀ (F := F) := by
  funext p l a
  rcases p with _ | c | ⟨c, s⟩
  · match l with
    | 0 => rfl
    | 1 => rfl
  · match l with
    | 0 => rfl
    | 1 => rfl
  · match l with
    | 0 => rfl
    | 1 => rfl

theorem defs_eq : Cert.Kernel.defs (F := F) = defs (F := F) := congrArg (fun D => sc.defs (Pipeline.defs pcfgs D)) defs₀_eq

theorem frameBits : Cert.quiescent_Kernel := fun m g _ =>
  Eq.mpr (congrArg (fun D => θ_run D (Cert.Kernel.threads (F := Bits)) ⟨m, fun _ => 0, g⟩ _) defs_eq) (run_args (F := Bits) m g)

end Cert.Proof.Result

end
-- ==== Proof.RefRun.lean ====
module
public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof.RefRun

open Cert.ReferenceIdeal Cert.ReferenceIdeal.Gen
open Idealize.ShloMosaic Idealize.SL.Sem

/-- The reference runs and leaves its arguments alone; it has no semaphore. -/
theorem frame : Cert.quiescent_ReferenceIdeal := fun m g _ =>
  (θ_run _ _ _).mono (fun _ h => ⟨fun c => (h c).2, sem_eq_zero_of_no_sems rfl _⟩) (Cert.ReferenceIdeal.Value.run (F := Ideal) m g)

end Cert.Proof.RefRun

end
-- ==== Proof.Elem.lean ====
/-
  The elementary facts of the value: the softplus of one number as the kernel and as the reference compute it, and the
  number of edges below a time as both compute it.
-/
module

public import Idealize.ShloMosaic.PureOps.Ideal
public import Idealize.ShloMosaic.Lib.IdealHost
public import Mathlib.Analysis.SpecialFunctions.Log.Basic
public import proofs.«01_k».proof.Proof.Tile

@[expose] public section

noncomputable section

namespace Cert.Proof.Elem

open Idealize.ShloMosaic
open scoped BigOperators

/-! ## Constants -/

theorem bits_thirty : Ideal.ofBits .f32 0x41F00000#32 = ((30 : ℝ) : EReal) := by
  simp [Ideal.ofBits, Ideal.ieee, -EReal.coe_mul]; norm_num

theorem bits_zero : Ideal.ofBits .f32 0x00000000#32 = 0 := by
  simp [Ideal.ofBits, Ideal.ieee]

theorem bits_inf : Ideal.ofBits .f32 0x7F800000#32 = ⊤ := by
  simp [Ideal.ofBits, Ideal.ieee]

theorem bits_neg_inf : Ideal.ofBits .f32 0xFF800000#32 = ⊥ := by
  simp [Ideal.ofBits, Ideal.ieee]

theorem bits_big : Ideal.ofBits .f32 0x4EFFFFFF#32 = ((2147483520 : ℝ) : EReal) := by
  simp [Ideal.ofBits, Ideal.ieee, -EReal.coe_mul]; norm_num

/-! ## The softplus -/

/-- The softplus of a number that is not plus infinity. -/
def sp : EReal → ℝ
  | ⊥ => 0
  | ⊤ => 0
  | (r : ℝ) => Real.log (1 + Real.exp r)

@[simp] theorem sp_bot : sp ⊥ = 0 := rfl
@[simp] theorem sp_coe (r : ℝ) : sp r = Real.log (1 + Real.exp r) := rfl

theorem log1p_exp (r : ℝ) : Ideal.log1p (Ideal.exp (r : EReal)) = (Real.log (1 + Real.exp r) : EReal) := by
  have h : (1 : EReal) + ((Real.exp r : ℝ) : EReal) = ((1 + Real.exp r : ℝ) : EReal) := by
    rw [EReal.coe_add, EReal.coe_one]
  have hp : ¬ 1 + Real.exp r ≤ 0 := not_le.2 (by positivity)
  rw [Ideal.log1p, Ideal.exp_coe, h, Ideal.log_coe, if_neg hp]

theorem log1p_exp_bot : Ideal.log1p (Ideal.exp ⊥) = 0 := by
  have h : (1 : EReal) + 0 = ((1 : ℝ) : EReal) := by rw [add_zero, EReal.coe_one]
  rw [Ideal.log1p, Ideal.exp_bot, h, Ideal.log_coe, if_neg (by norm_num), Real.log_one, EReal.coe_zero]

/-- A number at most thirty is minus infinity or real. -/
theorem cases_le {x : EReal} {b : ℝ} (h : x ≤ (b : EReal)) : x = ⊥ ∨ ∃ r : ℝ, x = r ∧ r ≤ b := by
  induction x with
  | bot => exact Or.inl rfl
  | top => exact absurd h (by simp)
  | coe r => exact Or.inr ⟨r, rfl, by exact_mod_cast h⟩

/-- The kernel's softplus. -/
theorem kernel_sp {x : EReal} (h : x ≤ ((30 : ℝ) : EReal)) : Ideal.log1p (Ideal.exp (min x ((30 : ℝ) : EReal))) = (sp x : EReal) := by
  rw [min_eq_left h]
  rcases cases_le h with rfl | ⟨r, rfl, _⟩
  · rw [log1p_exp_bot, sp_bot, EReal.coe_zero]
  · rw [log1p_exp, sp_coe]

theorem kernel_sp_bot : Ideal.log1p (Ideal.exp (min ⊥ ((30 : ℝ) : EReal))) = 0 := by
  rw [min_eq_left bot_le, log1p_exp_bot]

theorem coe_max (a b : ℝ) : ((max a b : ℝ) : EReal) = max (a : EReal) b :=
  Monotone.map_max fun _ _ h => EReal.coe_le_coe_iff.2 h

/-- The reference's softplus of one number. -/
def rsp (y : EReal) : EReal :=
  Scalar.select (Ideal.cmp .une (y - 0) (y - 0)) (y + 0) (max y 0 + Ideal.log1p (Ideal.exp (-(max (y - 0) (-(y - 0))))))

theorem rsp_eq (y : EReal) : rsp y = max y 0 + Ideal.log1p (Ideal.exp (-(max y (-y)))) := by
  have hc : ∀ z : EReal, Ideal.cmp .une z z = 0#1 := fun z => by simp [Ideal.cmp]
  unfold rsp
  rw [hc, sub_zero]
  rfl

theorem rsp_real (r : ℝ) : rsp r = (Real.log (1 + Real.exp r) : EReal) := by
  rw [rsp_eq]
  have e : max (r : EReal) (-(r : EReal)) = ((|r| : ℝ) : EReal) := by
    rw [← EReal.coe_neg, ← coe_max]; rfl
  rw [e, ← EReal.coe_neg, log1p_exp, ← EReal.coe_zero, ← coe_max, ← EReal.coe_add]
  congr 1
  rcases le_total 0 r with h | h
  · rw [abs_of_nonneg h, max_eq_left h]
    have : 1 + Real.exp r = Real.exp r * (1 + Real.exp (-r)) := by
      rw [mul_add, mul_one, ← Real.exp_add, add_neg_cancel, Real.exp_zero, add_comm]
    rw [this, Real.log_mul (by positivity) (by positivity), Real.log_exp]
  · rw [abs_of_nonpos h, max_eq_right h, neg_neg, zero_add]

theorem rsp_bot : rsp ⊥ = 0 := by
  rw [rsp_eq, EReal.neg_bot, max_eq_right bot_le, max_eq_right bot_le, EReal.neg_top, log1p_exp_bot, add_zero]

theorem rsp_top : rsp ⊤ = ⊤ := by
  rw [rsp_eq, EReal.neg_top, max_eq_left bot_le, max_eq_left le_top, EReal.neg_top, log1p_exp_bot, add_zero]

theorem rsp_neg_neg {x : EReal} (h : x ≤ ((30 : ℝ) : EReal)) : rsp (- -x) = (sp x : EReal) := by
  rw [neg_neg]
  rcases cases_le h with rfl | ⟨r, rfl, _⟩
  · rw [rsp_bot, sp_bot, EReal.coe_zero]
  · rw [rsp_real, sp_coe]

theorem rsp_neg {x : EReal} (h : x ≤ ((30 : ℝ) : EReal)) : rsp (-x) = (sp x : EReal) - x := by
  rcases cases_le h with rfl | ⟨r, rfl, _⟩
  · rw [EReal.neg_bot, rsp_top, sp_bot, EReal.coe_zero, sub_eq_add_neg, EReal.neg_bot, zero_add]
  · rw [← EReal.coe_neg, rsp_real, sp_coe, ← EReal.coe_sub]
    congr 1
    have : 1 + Real.exp (-r) = Real.exp (-r) * (1 + Real.exp r) := by
      rw [mul_add, mul_one, ← Real.exp_add, neg_add_cancel, Real.exp_zero, add_comm]
    rw [this, Real.log_mul (by positivity) (by positivity), Real.log_exp]
    ring

/-! ## The number of edges below a time -/

/-- The number of the edges `0 … 126` that lie below the time. -/
def below (t : EReal) : ℕ := min ⌈t.toReal⌉₊ 127

theorem below_le (t : EReal) : below t ≤ 127 := Nat.min_le_right _ _

theorem below_lt (t : EReal) : below t < 128 := Nat.lt_succ_of_le (below_le t)

/-- A time in range is real. -/
theorem time_real {t : EReal} (h0 : ⊥ < t) (h1 : t ≤ ((2147483520 : ℝ) : EReal)) : ∃ r : ℝ, t = r ∧ r ≤ 2147483520 := by
  rcases cases_le h1 with rfl | h
  · exact absurd h0 (lt_irrefl _)
  · exact h

theorem edge_lt_iff {r : ℝ} {k : ℕ} (hk : k < 127) : (((k : ℝ) : EReal) < (r : EReal)) ↔ k < below r := by
  unfold below
  rw [EReal.toReal_coe, EReal.coe_lt_coe_iff, ← Nat.lt_ceil]
  omega

/-- How many edges lie below the time. -/
theorem card_below (r : ℝ) : (Finset.univ.filter fun k : Fin 127 => (((k.val : ℝ) : EReal) < (r : EReal))).card = below r := by
  rw [Finset.filter_congr fun k _ => edge_lt_iff k.isLt]
  have h := below_le r
  have e : (Finset.univ.filter fun k : Fin 127 => k.val < below r) = (Finset.univ : Finset (Fin (below r))).map (Fin.castLEEmb h) := by
    ext k
    simp only [Finset.mem_filter, Finset.mem_univ, true_and, Finset.mem_map, Fin.castLEEmb_apply]
    exact ⟨fun hk => ⟨⟨k.val, hk⟩, rfl⟩, fun ⟨a, ha⟩ => by rw [← ha]; exact a.isLt⟩
  rw [e, Finset.card_map, Finset.card_univ, Fintype.card_fin]

/-- A word clipped to `0 … 127`. -/
theorem clip_toNat {w : ℤ} (h0 : -2147483648 ≤ w) (h1 : w < 2147483648) :
    (IntOp.minsi 127#32 (IntOp.maxsi 0#32 (BitVec.ofInt 32 w))).toNat = min w.toNat 127 := by
  have hw : (BitVec.ofInt 32 w).toInt = w := BitVec.toInt_ofInt_eq_self (by decide) (by omega) (by omega)
  unfold IntOp.minsi IntOp.maxsi
  by_cases h : (BitVec.ofInt 32 w).slt 0#32 = true
  · have h' : w < 0 := by simpa [BitVec.slt, hw] using h
    rw [if_pos h, if_neg (by decide)]
    show 0 = _
    omega
  · have h' : ¬ w < 0 := by simpa [BitVec.slt, hw] using h
    rw [if_neg h]
    by_cases g : (127#32).slt (BitVec.ofInt 32 w) = true
    · have g' : 127 < w := by simpa [BitVec.slt, hw] using g
      rw [if_pos g]
      show 127 = _
      omega
    · have g' : ¬ 127 < w := by simpa [BitVec.slt, hw] using g
      rw [if_neg g]
      have := BitVec.toInt_eq_toNat_cond (BitVec.ofInt 32 w)
      have := (BitVec.ofInt 32 w).isLt
      omega

/-- The kernel's column of a time is the number of edges below it. -/
theorem bin_eq {r : ℝ} (h : r ≤ 2147483520) : (Tile.bin (F := Ideal) (r : EReal)).toNat = below r := by
  obtain ⟨c, hc0, hc1, hc, hcr⟩ : ∃ c : ℤ, -2147483648 ≤ c ∧ c ≤ 2147483520 ∧ Ideal.fptosi 32 (r : EReal) = BitVec.ofInt 32 c
      ∧ min (c + if (c : ℝ) < r then 1 else 0).toNat 127 = below r := by
    unfold below
    rw [EReal.toReal_coe]
    by_cases hr : 0 ≤ r
    · have hz : ⌊r⌋ ≤ 2147483520 := by
        have : (⌊r⌋ : ℝ) ≤ 2147483520 := (Int.floor_le r).trans h
        exact_mod_cast this
      have hz0 : 0 ≤ ⌊r⌋ := Int.floor_nonneg.2 hr
      refine ⟨⌊r⌋, by omega, hz, ?_, ?_⟩
      · rw [Ideal.fptosi, Ideal.toIntClamped_coe, if_pos hr]
        congr 1
        norm_num
        omega
      · congr 1
        split
        · next hlt =>
          have : ⌈r⌉₊ = (⌊r⌋ + 1).toNat := by
            have h1 : ⌈r⌉₊ ≤ (⌊r⌋ + 1).toNat := Nat.ceil_le.2 (by
              have e : (((⌊r⌋ + 1).toNat : ℕ) : ℝ) = ((⌊r⌋ + 1 : ℤ) : ℝ) := by
                exact_mod_cast congrArg (Int.cast : ℤ → ℝ) (Int.toNat_of_nonneg (by omega : 0 ≤ ⌊r⌋ + 1))
              rw [e]; push_cast; exact (Int.lt_floor_add_one r).le)
            have h2 : ⌊r⌋.toNat < ⌈r⌉₊ := Nat.lt_ceil.2 (by
              have e : ((⌊r⌋.toNat : ℕ) : ℝ) = (⌊r⌋ : ℝ) := by
                exact_mod_cast congrArg (Int.cast : ℤ → ℝ) (Int.toNat_of_nonneg hz0)
              rw [e]; exact hlt)
            omega
          exact this.symm
        · next hge =>
          have e : (⌊r⌋ : ℝ) = r := le_antisymm (Int.floor_le r) (not_lt.1 hge)
          have e' : ((⌊r⌋.toNat : ℕ) : ℝ) = r := by
            rw [← e]
            simp only [Int.floor_intCast]
            exact_mod_cast congrArg (Int.cast : ℤ → ℝ) (Int.toNat_of_nonneg hz0)
          rw [add_zero]
          conv_rhs => rw [← e']
          rw [Nat.ceil_natCast]
    · have hr' : r ≤ 0 := (not_le.1 hr).le
      have hz0 : ⌈r⌉ ≤ 0 := Int.ceil_le.2 (by exact_mod_cast hr')
      refine ⟨max (-2147483648) ⌈r⌉, le_max_left _ _, by omega, ?_, ?_⟩
      · rw [Ideal.fptosi, Ideal.toIntClamped_coe, if_neg hr]
        congr 1
        norm_num
        omega
      · rw [if_neg (not_lt.2 ((Int.le_ceil r).trans (by exact_mod_cast le_max_right _ _))), Nat.ceil_eq_zero.2 hr']
        omega
  have hs : ((BitVec.ofInt 32 c).toInt : ℤ) = c := BitVec.toInt_ofInt_eq_self (by decide) (by omega) (by omega)
  show (IntOp.minsi 127#32 (IntOp.maxsi 0#32 (Ideal.fptosi 32 (r : EReal)
    + Scalar.select (Ideal.cmp .ogt (r : EReal) (((Ideal.fptosi 32 (r : EReal)).toInt : ℝ) : EReal)) 1#32 0#32))).toNat = _
  rw [hc, hs, ← hcr]
  by_cases g : (c : ℝ) < r
  · have e : Ideal.cmp .ogt (r : EReal) ((c : ℝ) : EReal) = 1#1 := by
      simp only [Ideal.cmp, EReal.coe_lt_coe_iff, g, decide_true]; rfl
    rw [e, if_pos g, ← clip_toNat (by omega) (by omega), BitVec.ofInt_add]
    rfl
  · have e : Ideal.cmp .ogt (r : EReal) ((c : ℝ) : EReal) = 0#1 := by
      simp only [Ideal.cmp, EReal.coe_lt_coe_iff, g, decide_false]; rfl
    rw [e, if_neg g, ← clip_toNat (by omega) (by omega), BitVec.ofInt_add]
    rfl

end Cert.Proof.Elem

end
-- ==== Proof.RefOps.lean ====
module
public import proofs.«01_k».proof.Proof.RefRun
public import proofs.«01_k».proof.Proof.Elem
public import Idealize.ShloMosaic.Lib.Routing.Ops
public import Idealize.ShloMosaic.Lib.ReduceAll
public import Idealize.ShloMosaic.Lib.ValueLayout

@[expose] public section

noncomputable section

namespace Cert.Proof.RefOps

open Cert.ReferenceIdeal Cert.ReferenceIdeal.Gen
open Idealize.ShloMosaic Idealize.ShloMosaic.ValueIdx
open scoped BigOperators

/-! ## The reference's operations read at an index -/

theorem foldl_add {ι M : Type*} [AddCommMonoid M] (l : List ι) (g : ι → M) (v : M) : l.foldl (fun r n => r + g n) v = v + (l.map g).sum := by
  induction l generalizing v with
  | nil => exact (add_zero v).symm
  | cons a l ih => rw [List.foldl_cons, ih, List.map_cons, List.sum_cons, add_assoc]

/-- Position `n` of a window of one row. -/
theorem window_pos (n : Fin (⟨2, ![1, 128]⟩ : Shape).numel) :
    ((⟨2, ![1, 128]⟩ : Shape).rowMajor.symm n 0).val = 0 ∧ ((⟨2, ![1, 128]⟩ : Shape).rowMajor.symm n 1).val = n.val := by
  have h := Routing.symm2 (N := 128) n
  exact ⟨congrArg (fun i => (i 0).val) h, congrArg (fun i => (i 1).val) h⟩

/-- The running sums along the rows. -/
theorem cum_apply {R : ℕ} (x : (⟨2, ![R, 128]⟩ : Shape).Idx → EReal) (init : S_.Idx → EReal) (hi : ∀ i, init i = 0)
    (h : (⟨2, ![R, 128]⟩ : Shape).ReduceWindows (![1, 128] : Fin 2 → Nat) ![1, 1] ![0, 127] ![0, 0] ⟨2, ![R, 128]⟩) (hu : 0 < S_.numel)
    (n : Fin R) (j : Fin 128) :
    (Host.reduceWindowAdd (F := Ideal) (φ := .f32) ![1, 128] ![1, 1] ![0, 127] ![0, 0] x init h hu (ix2 n j) : EReal)
      = ∑ k ∈ Finset.range (j.val + 1), x (ix2 n (Fin.ofNat 128 k)) := by
  have hj := j.isLt
  have hn := n.isLt
  have e : (Host.reduceWindowAdd (F := Ideal) (φ := .f32) ![1, 128] ![1, 1] ![0, 127] ![0, 0] x init h hu (ix2 n j) : EReal)
      = (List.finRange (⟨2, ![1, 128]⟩ : Shape).numel).foldl
          (fun r w => r + if 127 ≤ j.val + w.val then x (ix2 n (Fin.ofNat 128 (j.val + w.val - 127))) else 0) 0 := by
    show Host.reduceWindow (fun a b : EReal => a + b) ![1, 128] ![1, 1] ![0, 127] ![0, 0] x (fun _ : (⟨0, ![]⟩ : Shape).Idx => init (Shape.Idx.first hu)) h
      (by decide) (ix2 n j) = _
    unfold Host.reduceWindow
    dsimp only
    rw [hi]
    refine congrArg (fun f => List.foldl f (0 : EReal) (List.finRange (⟨2, ![1, 128]⟩ : Shape).numel)) ?_
    funext r w
    obtain ⟨w0, w1⟩ := window_pos w
    have hw : w.val < 128 := lt_of_lt_of_eq w.isLt (Routing.numel2 128)
    refine congrArg (r + ·) ?_
    split
    · next hin =>
      have h1 := hin 1
      change 127 ≤ j.val * 1 + ((⟨2, ![1, 128]⟩ : Shape).rowMajor.symm w 1).val
        ∧ j.val * 1 + ((⟨2, ![1, 128]⟩ : Shape).rowMajor.symm w 1).val - 127 < 128 at h1
      rw [w1] at h1
      rw [if_pos (by omega)]
      refine congrArg x (funext fun a => Fin.ext ?_)
      match a with
      | ⟨0, _⟩ =>
        show n.val * 1 + ((⟨2, ![1, 128]⟩ : Shape).rowMajor.symm w 0).val - 0 = n.val
        rw [w0]; omega
      | ⟨1, _⟩ =>
        show j.val * 1 + ((⟨2, ![1, 128]⟩ : Shape).rowMajor.symm w 1).val - 127 = (j.val + w.val - 127) % 128
        rw [w1]; omega
    · next hin =>
      rw [if_neg fun hle => hin fun a => by
        match a with
        | ⟨0, _⟩ =>
          show 0 ≤ n.val * 1 + ((⟨2, ![1, 128]⟩ : Shape).rowMajor.symm w 0).val ∧ n.val * 1 + ((⟨2, ![1, 128]⟩ : Shape).rowMajor.symm w 0).val - 0 < R
          rw [w0]; omega
        | ⟨1, _⟩ =>
          show 127 ≤ j.val * 1 + ((⟨2, ![1, 128]⟩ : Shape).rowMajor.symm w 1).val
            ∧ j.val * 1 + ((⟨2, ![1, 128]⟩ : Shape).rowMajor.symm w 1).val - 127 < 128
          rw [w1]; omega]
  have hnum : (⟨2, ![1, 128]⟩ : Shape).numel = (127 - j.val) + (j.val + 1) := (Routing.numel2 128).trans (by omega)
  rw [e, foldl_add, zero_add, ← Fin.sum_univ_def,
    Fin.sum_univ_eq_sum_range (fun w => if 127 ≤ j.val + w then x (ix2 n (Fin.ofNat 128 (j.val + w - 127))) else 0), hnum, Finset.sum_range_add,
    Finset.sum_eq_zero fun w hw => if_neg (by have := Finset.mem_range.1 hw; omega), zero_add]
  refine Finset.sum_congr rfl fun k _ => ?_
  rw [if_pos (by omega), show j.val + (127 - j.val + k) - 127 = k by omega]

/-- The gather along the rows: row `n`'s element in the column its start index names, clamped. -/
theorem gather_apply (x : S131072x128.Idx → EReal) (idx : IVec S131072x1x1 32) (n : Fin 131072) :
    Host.gather gather_S131072x128_S131072x1x1_S131072x1_n_1_0_0_1_2_11 x idx (ix2 n (0 : Fin 1))
      = x (ix2 n ⟨min (idx (ix3 n (0 : Fin 1) (0 : Fin 1))).toInt.toNat 127, by omega⟩) := by
  unfold Host.gather
  refine congrArg x (funext fun a => Fin.ext ?_)
  show gather_S131072x128_S131072x1x1_S131072x1_n_1_0_0_1_2_11.start (ix2 n (0 : Fin 1)) idx a
      + gather_S131072x128_S131072x1x1_S131072x1_n_1_0_0_1_2_11.batchCoord (ix2 n (0 : Fin 1)) a
      + gather_S131072x128_S131072x1x1_S131072x1_n_1_0_0_1_2_11.offCoord (ix2 n (0 : Fin 1)) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S131072x128_S131072x1x1_S131072x1_n_1_0_0_1_2_11.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ gather_S131072x128_S131072x1x1_S131072x1_n_1_0_0_1_2_11.startIndexMap from List.mem_singleton.mpr rfl)]
    have hs : gather_S131072x128_S131072x1x1_S131072x1_n_1_0_0_1_2_11.siIdx (ix2 n (0 : Fin 1))
        ⟨List.idxOf (1 : Fin 2) gather_S131072x128_S131072x1x1_S131072x1_n_1_0_0_1_2_11.startIndexMap,
          List.idxOf_lt_length_iff.2 (List.mem_singleton.mpr rfl)⟩ = ix3 n (0 : Fin 1) (0 : Fin 1) := by
      funext b; apply Fin.ext
      match b with
      | ⟨0, _⟩ => rfl
      | ⟨1, _⟩ => rfl
      | ⟨2, _⟩ => rfl
    rw [hs]
    rfl

end Cert.Proof.RefOps

end
-- ==== Proof.RefStages.lean ====
module
public import proofs.«01_k».proof.Proof.RefOps

@[expose] public section

noncomputable section

namespace Cert.Proof.RefStages

open Cert.ReferenceIdeal Cert.ReferenceIdeal.Gen
open Idealize.ShloMosaic Idealize.ShloMosaic.ValueIdx

/-! ## The reference's stages, each a function of the arrays it reads -/

variable {F : FTy → Type} [FloatOps F]

/-- The bin of every row: the number of edges below its time, clipped. -/
def bins (ed : FVec F S127 .f32) (t : FVec F S131072 .f32) : IVec S131072 32 :=
  minsi (broadcastInDim S131072 ![] bcast_S_S131072 (id (constantI S_ 32 127#32)))
    (maxsi (broadcastInDim S131072 ![] bcast_S_S131072 (id (constantI S_ 32 0#32)))
      (Host.reduce IntOp.addi (extui 32 (cmpf .olt
          (broadcastInDim S131072x127 ![0, 1] bcast_S1x127_S131072x127_0_1 (broadcastInDim S1x127 ![1] bcast_S127_S1x127_1 ed))
          (broadcastInDim S131072x127 ![0, 1] bcast_S131072x1_S131072x127_0_1 (broadcastInDim S131072x1 ![0] bcast_S131072_S131072x1_0 t))) natLt_1_32)
        (constantI S_ 32 0#32) reducesTo_S131072x127_S131072_d1 h_S_))

/-- The softplus of every element. -/
def soft (y : FVec F S131072x128 .f32) : FVec F S131072x128 .f32 :=
  let Z : FVec F S131072x128 .f32 := broadcastInDim S131072x128 ![] bcast_S_S131072x128 (constant S_ .f32 0x00000000#32)
  select (cmpf .une (subf y Z) (subf y Z)) (addf y Z) (addf (maximumf y Z) (Host.log1p (Host.exp (Host.negf (Host.absf (subf y Z))))))

/-- The running sums along the rows. -/
def cum (A : FVec F S131072x128 .f32) : FVec F S131072x128 .f32 :=
  Host.reduceWindowAdd ![1, 128] ![1, 1] ![0, 127] ![0, 0] A (broadcastInDim S_ ![] bcast_S_S_ (constant S_ .f32 0x00000000#32))
    reduceWindows_S131072x128_S131072x128_w1s1p0_0_w128s1p127_0 h_S_

/-- Column numbers, the negative ones counted from the end. -/
def wrap (i : IVec S131072 32) : IVec S131072x1x1 32 :=
  let c : IVec S131072x1 32 := broadcastInDim S131072x1 ![0] bcast_S131072_S131072x1_0 i
  shapeCast S131072x1x1 (select (cmpi .slt c (broadcastInDim S131072x1 ![] bcast_S_S131072x1 (constantI S_ 32 0#32)))
    (addi c (broadcastInDim S131072x1 ![] bcast_S_S131072x1 (constantI S_ 32 128#32))) c) shapeCasts_S131072x1_S131072x1x1

/-- Each row's element in the column `w` names; not a number where there is no such column. -/
def pick (A : FVec F S131072x128 .f32) (w : IVec S131072x1x1 32) : FVec F S131072 .f32 :=
  shapeCast S131072 (select (Host.reduce IntOp.andi
      (andi (cmpi .sge w (broadcastInDim S131072x1x1 ![] bcast_S_S131072x1x1 (constantI S_ 32 0#32)))
        (cmpi .sle w (broadcastInDim S131072x1x1 ![0, 1, 2] bcast_S1x1x1_S131072x1x1_0_1_2
          (broadcastInDim S1x1x1 ![2] bcast_S1_S1x1x1_2 (constantI S1 32 127#32)))))
      (constantI S_ 1 1#1) reducesTo_S131072x1x1_S131072x1_d2 h_S_)
    (Host.gather gather_S131072x128_S131072x1x1_S131072x1_n_1_0_0_1_2_11 A w)
    (broadcastInDim S131072x1 ![] bcast_S_S131072x1 (constant S_ .f32 0x7FC00000#32))) shapeCasts_S131072x1_S131072

/-- The bin before each row's. -/
def before (b : IVec S131072 32) : IVec S131072 32 :=
  maxsi (broadcastInDim S131072 ![] bcast_S_S131072 (id (constantI S_ 32 0#32))) (subi b (broadcastInDim S131072 ![] bcast_S_S131072 (constantI S_ 32 1#32)))

/-- Every row's loss, from the running sums `C` of the logarithms of one minus the hazards, the logarithms `H` of the
    hazards, the events and the bins. -/
def losses (C H : FVec F S131072x128 .f32) (e b : IVec S131072 32) : FVec F S131072 .f32 :=
  select (cmpi .eq e (broadcastInDim S131072 ![] bcast_S_S131072 (constantI S_ 32 1#32)))
    (Host.negf (addf (select (cmpi .sgt b (broadcastInDim S131072 ![] bcast_S_S131072 (constantI S_ 32 0#32))) (pick C (wrap (before b)))
      (broadcastInDim S131072 ![] bcast_S_S131072 (constant S_ .f32 0x00000000#32))) (pick H (wrap b))))
    (Host.negf (pick C (wrap b)))

/-- The losses' mean. -/
def mean (l : FVec F S131072 .f32) : FVec F S_ .f32 :=
  Host.divf (Host.reduceAdd l (constant S_ .f32 0x00000000#32) reducesTo_S131072_S_d0 h_S_) (constant S_ .f32 0x48000000#32)

/-- The whole reference. -/
def value (x : FVec F S131072x128 .f32) (e : IVec S131072 32) (t : FVec F S131072 .f32) (ed : FVec F S127 .f32) : FVec F S_ .f32 :=
  mean (losses (cum (Host.negf (soft (Host.negf (Host.negf x))))) (Host.negf (soft (Host.negf x))) e (bins ed t))

set_option maxRecDepth 8192 in
theorem res_eq (m : (ℓ : Loc nD τ sig) → Buf (Elt F) ℓ) (c : Dev nD) :
    Cert.ReferenceIdeal.Value.res_main_v34 m c
      = value (m ((c.tc : Thread nD τ).loc main_arg0)) (m ((c.tc : Thread nD τ).loc main_arg1)) (m ((c.tc : Thread nD τ).loc main_arg2))
          (m ((c.tc : Thread nD τ).loc main_arg3)) := by
  unfold Cert.ReferenceIdeal.Value.res_main_v34
  rfl

end Cert.Proof.RefStages

end
-- ==== Proof.RefValue.lean ====
module
public import proofs.«01_k».proof.Proof.RefStages

@[expose] public section

noncomputable section

namespace Cert.Proof.RefValue

open Cert.ReferenceIdeal Cert.ReferenceIdeal.Gen Cert.Proof.Elem Cert.Proof.RefOps Cert.Proof.RefStages
open Idealize.ShloMosaic Idealize.ShloMosaic.ValueIdx
open scoped BigOperators

/-! ## Column numbers as words -/

/-- Column `k`'s word. -/
abbrev word (k : Fin 128) : BitVec 32 := BitVec.ofNat 32 k.val

theorem word_clip : ∀ k : Fin 128, IntOp.minsi 127#32 (IntOp.maxsi 0#32 (word k)) = word k := by decide
theorem word_wrap : ∀ k : Fin 128, Scalar.select (IntOp.cmpi .slt (word k) 0#32) (IntOp.addi (word k) 128#32) (word k) = word k := by decide
theorem word_range : ∀ k : Fin 128, IntOp.andi (IntOp.cmpi .sge (word k) 0#32) (IntOp.cmpi .sle (word k) 127#32) = 1#1 := by decide
theorem word_before : ∀ k : Fin 128, IntOp.maxsi 0#32 (IntOp.subi (word k) 1#32) = word ⟨k.val - 1, by omega⟩ := by decide
theorem word_pos : ∀ k : Fin 128, IntOp.cmpi .sgt (word k) 0#32 = BitVec.ofBool (decide (0 < k.val)) := by decide
theorem word_toInt : ∀ k : Fin 128, min (word k).toInt.toNat 127 = k.val := by decide

/-! ## The stages read at an index -/

/-- The bin of a row: the number of edges below its time. -/
theorem bins_apply (ed : S127.Idx → EReal) (t : S131072.Idx → EReal) (hed : ∀ k : Fin 127, ed (ix1 k) = ((k.val : ℝ) : EReal))
    (n : Fin 131072) : bins (F := Ideal) ed t (ix1 n) = word ⟨below (t (ix1 n)), below_lt _⟩ ∨ ∀ r : ℝ, t (ix1 n) ≠ r := by
  by_cases hr : ∃ r : ℝ, t (ix1 n) = r
  swap
  · exact .inr fun r h => hr ⟨r, h⟩
  obtain ⟨r, hr⟩ := hr
  refine .inl ?_
  let msk : IVec S131072x127 1 := cmpf (F := Ideal) (φ := .f32) .olt
    (broadcastInDim S131072x127 ![0, 1] bcast_S1x127_S131072x127_0_1 (broadcastInDim S1x127 ![1] bcast_S127_S1x127_1 ed))
    (broadcastInDim S131072x127 ![0, 1] bcast_S131072x1_S131072x127_0_1 (broadcastInDim S131072x1 ![0] bcast_S131072_S131072x1_0 t))
  have hm : ∀ k : Fin 127, msk (ix2 n k) = BitVec.ofBool (decide (((k.val : ℝ) : EReal) < (r : EReal))) := by
    intro k
    have e1 : broadcastInDim S131072x127 ![0, 1] bcast_S1x127_S131072x127_0_1 (broadcastInDim S1x127 ![1] bcast_S127_S1x127_1 ed) (ix2 n k) = ((k.val : ℝ) : EReal) :=
      (broadcastInDim_apply _ _ _ _ (ix2 (0 : Fin 1) k) fun a => match a with | ⟨0, _⟩ => rfl | ⟨1, _⟩ => rfl).trans
        ((broadcastInDim_apply _ _ _ _ (ix1 k) fun a => match a with | ⟨0, _⟩ => rfl).trans (hed k))
    have e2 : broadcastInDim S131072x127 ![0, 1] bcast_S131072x1_S131072x127_0_1 (broadcastInDim S131072x1 ![0] bcast_S131072_S131072x1_0 t) (ix2 n k) = (r : EReal) :=
      (broadcastInDim_apply _ _ _ _ (ix2 n (0 : Fin 1)) fun a => match a with | ⟨0, _⟩ => rfl | ⟨1, _⟩ => rfl).trans
        ((broadcastInDim_apply _ _ _ _ (ix1 n) fun a => match a with | ⟨0, _⟩ => rfl).trans hr)
    rw [← e1, ← e2]
    rfl
  have hc : (Host.reduce IntOp.addi (extui 32 msk natLt_1_32) (constantI S_ 32 0#32) reducesTo_S131072x127_S131072_d1 h_S_ (ix1 n)).toNat = below (t (ix1 n)) := by
    rw [StableHlo.Predicate.toNat_reduce_count_cols (by decide) msk natLt_1_32 reducesTo_S131072x127_S131072_d1 h_S_ (ix1 n), hr, ← card_below r]
    refine congrArg Finset.card (Finset.filter_congr fun k _ => ?_)
    show msk (StableHlo.Predicate.ij n k) = 1#1 ↔ _
    rw [Routing.ij_eq_ix2, hm]
    by_cases h : ((k.val : ℝ) : EReal) < (r : EReal)
    · simp only [h, decide_true, iff_true]; rfl
    · simp only [h, decide_false, iff_false]; decide
  have hw : Host.reduce IntOp.addi (extui 32 msk natLt_1_32) (constantI S_ 32 0#32) reducesTo_S131072x127_S131072_d1 h_S_ (ix1 n)
      = word ⟨below (t (ix1 n)), below_lt _⟩ :=
    BitVec.eq_of_toNat_eq (hc.trans (by
      rw [BitVec.toNat_ofNat]
      have := below_lt (t (ix1 n))
      exact (Nat.mod_eq_of_lt (by omega)).symm))
  show IntOp.minsi 127#32 (IntOp.maxsi 0#32 (Host.reduce IntOp.addi (extui 32 msk natLt_1_32) (constantI S_ 32 0#32) reducesTo_S131072x127_S131072_d1 h_S_ (ix1 n))) = _
  rw [hw, word_clip]

theorem soft_apply (y : S131072x128.Idx → EReal) (i : S131072x128.Idx) : (soft (F := Ideal) y i : EReal) = rsp (y i) := by
  unfold rsp
  rw [← bits_zero]
  rfl

theorem cum_at (A : S131072x128.Idx → EReal) (n : Fin 131072) (j : Fin 128) :
    (cum (F := Ideal) A (ix2 n j) : EReal) = ∑ k ∈ Finset.range (j.val + 1), A (ix2 n (Fin.ofNat 128 k)) :=
  cum_apply A _ (fun _ => bits_zero) _ _ n j

theorem wrap_apply (b : IVec S131072 32) (col : Fin 131072 → Fin 128) (hb : ∀ n, b (ix1 n) = word (col n)) (n : Fin 131072) :
    wrap b (ix3 n (0 : Fin 1) (0 : Fin 1)) = word (col n) := by
  have e : broadcastInDim S131072x1 ![0] bcast_S131072_S131072x1_0 b (ix2 n (0 : Fin 1)) = word (col n) :=
    (broadcastInDim_apply _ _ _ _ (ix1 n) fun a => match a with | ⟨0, _⟩ => rfl).trans (hb n)
  unfold wrap
  refine (shapeCast_apply _ shapeCasts_S131072x1_S131072x1x1 _ (ix2 n (0 : Fin 1)) ?_).trans ?_
  · rw [Shape.rowMajor_val_two, Shape.rowMajor_val_three]
    show n.val * 1 + 0 = (n.val * 1 + 0) * 1 + 0
    omega
  · refine Eq.trans ?_ (word_wrap (col n))
    rw [← e]
    rfl

theorem pick_apply (A : S131072x128.Idx → EReal) (w : IVec S131072x1x1 32) (col : Fin 131072 → Fin 128)
    (hw : ∀ n, w (ix3 n (0 : Fin 1) (0 : Fin 1)) = word (col n)) (n : Fin 131072) :
    (pick (F := Ideal) A w (ix1 n) : EReal) = A (ix2 n (col n)) := by
  let msk : IVec S131072x1x1 1 := andi (cmpi .sge w (broadcastInDim S131072x1x1 ![] bcast_S_S131072x1x1 (constantI S_ 32 0#32)))
    (cmpi .sle w (broadcastInDim S131072x1x1 ![0, 1, 2] bcast_S1x1x1_S131072x1x1_0_1_2
      (broadcastInDim S1x1x1 ![2] bcast_S1_S1x1x1_2 (constantI S1 32 127#32))))
  have hm : ∀ i, msk i = 1#1 := by
    intro i
    obtain ⟨k, rfl⟩ : ∃ k : Fin 131072, i = ix3 k (0 : Fin 1) (0 : Fin 1) := ⟨i 0, funext fun a => match a with
      | ⟨0, _⟩ => rfl
      | ⟨1, _⟩ => Subsingleton.elim (α := Fin 1) _ _
      | ⟨2, _⟩ => Subsingleton.elim (α := Fin 1) _ _⟩
    refine Eq.trans ?_ (word_range (col k))
    rw [← hw]
    rfl
  have hr : Host.reduce IntOp.andi msk (constantI S_ 1 1#1) reducesTo_S131072x1x1_S131072x1_d2 h_S_ (ix2 n (0 : Fin 1)) = 1#1 :=
    Host.reduce_andi_one msk _ _ _ _ rfl hm
  unfold pick
  refine (shapeCast_apply _ shapeCasts_S131072x1_S131072 _ (ix2 n (0 : Fin 1)) ?_).trans ?_
  · rw [Shape.rowMajor_val_two, Shape.rowMajor_val_one]
    show n.val * 1 + 0 = n.val
    omega
  · show Scalar.select (Host.reduce IntOp.andi msk (constantI S_ 1 1#1) reducesTo_S131072x1x1_S131072x1_d2 h_S_ (ix2 n (0 : Fin 1))) _ _ = _
    rw [hr, select_one, gather_apply]
    refine congrArg A (congrArg (ix2 n) (Fin.ext ?_))
    show min (w (ix3 n (0 : Fin 1) (0 : Fin 1))).toInt.toNat 127 = _
    rw [hw, word_toInt]

theorem before_apply (b : IVec S131072 32) (col : Fin 131072 → Fin 128) (hb : ∀ n, b (ix1 n) = word (col n)) (n : Fin 131072) :
    before b (ix1 n) = word ⟨(col n).val - 1, by omega⟩ := by
  refine Eq.trans ?_ (word_before (col n))
  rw [← hb]
  rfl

/-- A row's loss. -/
theorem losses_apply (C H : S131072x128.Idx → EReal) (e b : IVec S131072 32) (col : Fin 131072 → Fin 128) (hb : ∀ n, b (ix1 n) = word (col n))
    (n : Fin 131072) : (losses (F := Ideal) C H e b (ix1 n) : EReal)
      = Scalar.select (IntOp.cmpi .eq (e (ix1 n)) 1#32)
          (-((if 0 < (col n).val then C (ix2 n ⟨(col n).val - 1, by omega⟩) else 0) + H (ix2 n (col n)))) (-C (ix2 n (col n))) := by
  have h1 := pick_apply C _ col (wrap_apply b col hb) n
  have h2 := pick_apply H _ col (wrap_apply b col hb) n
  have h3 := pick_apply C _ (fun n => ⟨(col n).val - 1, by omega⟩) (wrap_apply _ _ (before_apply b col hb)) n
  have h4 : Scalar.select (IntOp.cmpi .sgt (b (ix1 n)) 0#32) (C (ix2 n ⟨(col n).val - 1, by omega⟩)) (Ideal.ofBits .f32 0x00000000#32)
      = if 0 < (col n).val then C (ix2 n ⟨(col n).val - 1, by omega⟩) else 0 := by
    rw [hb, word_pos, bits_zero]
    by_cases h : 0 < (col n).val
    · rw [if_pos h, decide_eq_true h]; exact select_one _ _
    · rw [if_neg h, decide_eq_false h]; exact select_zero _ _
  rw [← h4, ← h1, ← h2, ← h3]
  rfl

theorem sum_rows {R : ℕ} (l : (⟨1, ![R]⟩ : Shape).Idx → EReal) : ∑ j, l j = ∑ n : Fin R, l (ix1 n) :=
  Fintype.sum_equiv ⟨fun j => j 0, ix1, fun j => (eq_ix1 j).symm, fun _ => rfl⟩ _ _ fun j => congrArg l (eq_ix1 j)

theorem mean_apply (l : S131072.Idx → EReal) (i : S_.Idx) :
    (mean (F := Ideal) l i : EReal) = Ideal.div (∑ n : Fin 131072, l (ix1 n)) (Ideal.ofBits .f32 0x48000000#32) := by
  have h : (Host.reduceAdd (F := Ideal) (φ := .f32) l (constant (F := Ideal) S_ .f32 0x00000000#32) reducesTo_S131072_S_d0 h_S_ i : EReal)
      = ∑ n : Fin 131072, l (ix1 n) := by
    refine (Ideal.hostReduceAdd_total reducesTo_S131072_S_d0 (fun b => b.elim0) l _ i).trans ?_
    rw [sum_rows]
    refine Eq.trans (congrArg (· + _) bits_zero) (zero_add _)
  rw [← h]
  rfl

end Cert.Proof.RefValue

end
-- ==== Proof.ScValue.lean ====
module
public import proofs.«01_k».proof.Proof.Elem
public import Idealize.ShloMosaic.PureOps.Ideal.Laws

@[expose] public section

noncomputable section

namespace Cert.Proof.ScValue

open Cert.KernelIdeal Cert.KernelIdeal.Gen Cert.Proof.Base Cert.Proof.Rolled Cert.Proof.Tile Cert.Proof.Elem
open Idealize.ShloMosaic Idealize.ShloMosaic.ValueIdx
open scoped BigOperators

/-- A sum over `a · b` numbers taken `b` at a time. -/
theorem sum_mul {M : Type*} [AddCommMonoid M] (a b : ℕ) (f : ℕ → M) :
    ∑ n : Fin (a * b), f n.val = ∑ i : Fin a, ∑ j : Fin b, f (b * i.val + j.val) := by
  rw [← finProdFinEquiv.sum_comp, Fintype.sum_prod_type]
  refine Finset.sum_congr rfl fun i _ => Finset.sum_congr rfl fun j _ => ?_
  rw [finProdFinEquiv_apply_val, add_comm]

/-- Row number `n`. -/
abbrev row (n : ℕ) : S131072.Idx := ix1 (Fin.ofNat 131072 n)

/-- The flat element at position `p`. -/
abbrev flatAt (p : ℕ) : S16777216.Idx := ix1 (Fin.ofNat 16777216 p)

/-- The running sum of the vectors' products, added up. -/
theorem accTo_eq (f9 f7 : S4096.Idx → EReal) (m : ℕ) (l : S16.Idx) :
    accTo (F := Ideal) f9 f7 m l = ∑ k ∈ Finset.range m, seg f9 (16 * k) l * seg f7 (16 * k) l := by
  induction m with
  | zero => exact bits_zero
  | succ m ih =>
    rw [Finset.sum_range_succ, ← ih]
    show accTo (F := Ideal) f9 f7 m l + shapeCast S16 (seg f9 (16 * m)) shapeCasts_S16_S16 l * shapeCast S16 (seg f7 (16 * m)) shapeCasts_S16_S16 l = _
    rw [shapeCast_self, shapeCast_self]

/-- What row `n` adds: its element in the column of its time, times its event. -/
def part (x : S16777216.Idx → EReal) (t e : S131072.Idx → EReal) (n : ℕ) : EReal :=
  x (flatAt (n * 128 + (bin (F := Ideal) (t (row n))).toNat)) * e (row n)

theorem myRows_apply (i : grid1.Coords) (f : S131072.Idx → EReal) (k : Fin 4096) :
    myRows (F := Ideal) i f (ix1 k) = f (row (4096 * wid i + k.val)) := by
  have h := wid_lt i
  have hk := k.isLt
  unfold myRows
  congr 1
  rw [eq_ix1 ((Rect.unit (s := S131072) (k1_off1 i) S4096.size (k1_off1_inb i)).emb (ix1 k))]
  congr 1
  apply Fin.ext
  rw [Rect.emb_apply]
  show k1_off1 i 0 + 1 * k.val = (4096 * wid i + k.val) % 131072
  have : k1_off1 i 0 = 4096 * wid i := by
    show (Cert.Proof.Rolled.rowBase i).toNat = _
    rw [rowBase_eq, BitVec.toNat_ofNat]
    omega
  omega

theorem lookedUp_apply (i : grid1.Coords) (x : S16777216.Idx → EReal) (t : S131072.Idx → EReal) (k : Fin 4096) :
    lookedUp (F := Ideal) i x (myRows (F := Ideal) i t) (ix1 k)
      = x (flatAt ((4096 * wid i + k.val) * 128 + (bin (F := Ideal) (t (row (4096 * wid i + k.val)))).toNat)) := by
  have h := wid_lt i
  have hk := k.isLt
  unfold lookedUp
  congr 2
  apply Fin.ext
  show (posAt (rowBase i) k.val (myRows (F := Ideal) i t (ix1 k))).toNat = _ % 16777216
  rw [posAt_toNat i k.val hk, myRows_apply]
  have := bin_lt (F := Ideal) (t (row (4096 * wid i + k.val)))
  omega

theorem mySums_eq (i : grid1.Coords) (x : S16777216.Idx → EReal) (t e : S131072.Idx → EReal) (l : Fin 16) :
    mySums (F := Ideal) i x t e (ix1 l) = ∑ k : Fin 256, part x t e (4096 * wid i + (16 * k.val + l.val)) := by
  unfold mySums
  rw [accTo_eq, Finset.sum_range]
  refine Finset.sum_congr rfl fun k _ => ?_
  have hk := k.isLt
  have hl := l.isLt
  have e1 : (16 * k.val + l.val) % 4096 = 16 * k.val + l.val := by omega
  show lookedUp (F := Ideal) i x (myRows (F := Ideal) i t) (ix1 (Fin.ofNat 4096 (16 * k.val + l.val)))
    * myRows (F := Ideal) i e (ix1 (Fin.ofNat 4096 (16 * k.val + l.val))) = _
  rw [lookedUp_apply, myRows_apply]
  show x (flatAt ((4096 * wid i + (16 * k.val + l.val) % 4096) * 128 + (bin (F := Ideal) (t (row (4096 * wid i + (16 * k.val + l.val) % 4096)))).toNat))
    * e (row (4096 * wid i + (16 * k.val + l.val) % 4096)) = _
  rw [e1]
  rfl

theorem wid_tileOf (w : Fin 32) : wid (tileOf w) = w.val := by
  show 2 * (w.val / 2) + w.val % 2 = w.val
  omega

/-- All the tiles' sums, added up: every row's part. -/
theorem allSums_total (x : S16777216.Idx → EReal) (t e : S131072.Idx → EReal) :
    ∑ y : S32x16.Idx, allSums (F := Ideal) x t e y = ∑ n : Fin 131072, part x t e n.val := by
  have h1 := sum_mul 32 4096 (part x t e)
  have h2 : ∀ w : Fin 32, ∑ j : Fin 4096, part x t e (4096 * w.val + j.val)
      = ∑ k : Fin 256, ∑ l : Fin 16, part x t e (4096 * w.val + (16 * k.val + l.val)) := fun w =>
    sum_mul 256 16 fun j => part x t e (4096 * w.val + j)
  refine Eq.trans ?_ h1.symm
  rw [sum_idx2]
  refine Finset.sum_congr rfl fun w _ => ?_
  rw [h2, Finset.sum_comm]
  refine Finset.sum_congr rfl fun l _ => ?_
  show mySums (F := Ideal) (tileOf w) x t e (ix1 l) = _
  rw [mySums_eq, wid_tileOf]

end Cert.Proof.ScValue

end
-- ==== Proof.TcValue.lean ====
module
public import proofs.«01_k».proof.Proof.ScValue
public import proofs.«01_k».proof.Proof.TcRegion
public import Idealize.ShloMosaic.Lib.ValueLayout

@[expose] public section

noncomputable section

namespace Cert.Proof.TcValue

open Cert.KernelIdeal Cert.KernelIdeal.Gen Cert.Proof.Base Cert.Proof.Rolled Cert.Proof.TcRegion Cert.Proof.Elem Cert.Proof.ScValue
open Idealize.ShloMosaic Idealize.ShloMosaic.ValueIdx Idealize.ShloMosaic.TcCoe
open scoped BigOperators

/-- What an element `x` whose bin's lower edge is `a` adds for a row of time `t`. -/
def term (a t x : EReal) : EReal :=
  Ideal.log1p (Ideal.exp (min (Scalar.select (Ideal.cmp .olt a t) x (Ideal.ofBits .f32 0xFF800000#32)) (Ideal.ofBits .f32 0x41F00000#32)))

theorem tcCell_apply (es : S1x128.Idx → EReal) (tt : S128x128.Idx → EReal) (c : ℕ) (h : c + 1 ≤ 128) (acc x : S128x128.Idx → EReal)
    (r j : Fin 128) :
    (tcCell (F := Ideal) es tt c h acc x (ix2 r j) : EReal)
      = acc (ix2 r j) + term (es (ix2 (0 : Fin 1) j)) (tt (ix2 r (⟨c, h⟩ : Fin 128))) (x (ix2 r j)) := by
  have e1 : broadcastTo S128x128 (shapeCast S1x128 es shapeCasts_S1x128_S1x128) broadcasts_S1x128_S128x128 (ix2 r j) = es (ix2 (0 : Fin 1) j) := by
    rw [shapeCast_self]
    exact broadcastTo_apply _ _ _ _ fun a => match a with | ⟨0, _⟩ => rfl | ⟨1, _⟩ => rfl
  have e2 : broadcastTo S128x128 (extractStridedSlice S128x1 ![0, c] (shapeCast S128x128 tt shapeCasts_S128x128_S128x128) (slicesCol h))
      broadcasts_S128x1_S128x128 (ix2 r j) = tt (ix2 r (⟨c, h⟩ : Fin 128)) := by
    rw [shapeCast_self]
    refine (broadcastTo_apply _ _ _ (ix2 r (0 : Fin 1)) fun a => match a with | ⟨0, _⟩ => rfl | ⟨1, _⟩ => rfl).trans ?_
    exact extractStridedSlice_apply _ _ _ _ _ fun a => match a with | ⟨0, _⟩ => (Nat.zero_add _).symm | ⟨1, _⟩ => rfl
  unfold term
  rw [← e1, ← e2]
  rfl

theorem rowsOf_apply (x : S16384x128.Idx → EReal) (n : ℕ) (h : n + 1 ≤ 128) (r j : Fin 128) :
    rowsOf (F := Ideal) x n h (ix2 r j) = x (ix2 (Fin.ofNat 16384 (128 * n + r.val)) j) := by
  unfold rowsOf
  congr 1
  funext a
  apply Fin.ext
  have := r.isLt
  match a with
  | ⟨0, _⟩ =>
    show 128 * n + 1 * r.val = (128 * n + r.val) % 16384
    omega
  | ⟨1, _⟩ =>
    show 0 + 1 * j.val = j.val
    omega

theorem sums_apply (x : S16384x128.Idx → EReal) (es : S1x128.Idx → EReal) (tt : S128x128.Idx → EReal) (r j : Fin 128) (n : ℕ) :
    ∀ h : n ≤ 128, (sums (F := Ideal) x es tt n h (ix2 r j) : EReal)
      = ∑ c ∈ Finset.range n, term (es (ix2 (0 : Fin 1) j)) (tt (ix2 r (Fin.ofNat 128 c))) (x (ix2 (Fin.ofNat 16384 (128 * c + r.val)) j)) := by
  induction n with
  | zero => exact fun _ => bits_zero
  | succ n ih =>
    intro h
    have hn : (⟨n, h⟩ : Fin 128) = Fin.ofNat 128 n := Fin.ext (Nat.mod_eq_of_lt h).symm
    rw [Finset.sum_range_succ, ← ih (by omega), ← rowsOf_apply x n h, ← hn]
    exact tcCell_apply es tt n h (sums (F := Ideal) x es tt n (by omega)) (rowsOf (F := Ideal) x n h) r j

/-- The total of an array, as the kernel takes it. -/
theorem tcTotal_apply (acc : S128x128.Idx → EReal) (y : S1x1.Idx) : (tcTotal (F := Ideal) acc y : EReal) = ∑ r : Fin 128, ∑ j : Fin 128, acc (ix2 r j) := by
  have e : (tcTotal (F := Ideal) acc y : EReal) = ∑ i : S1x128x128.Idx, shapeCast S1x128x128 acc shapeCasts_S128x128_S1x128x128 i :=
    Ideal.multiReduction_add_total (shapeCast S1x128x128 acc shapeCasts_S128x128_S1x128x128) 0x00000000#32 reduces_S1x128x128_S1
      (fun b => match b with | ⟨0, _⟩ => rfl) (.inl rfl) rfl _
  rw [e, ← sum_idx2]
  exact (Shape.reshapeEquiv shapeCasts_S128x128_S1x128x128).sum_comp acc

/-- What row `n` adds. -/
def rowTerm (X : S131072x128.Idx → EReal) (T : S131072.Idx → EReal) (E : S128.Idx → EReal) (n : ℕ) : EReal :=
  ∑ j : Fin 128, term (E (ix1 j)) (T (row n)) (X (ix2 (Fin.ofNat 131072 n) j))

theorem gain_apply (X : S131072x128.Idx → EReal) (T : S131072.Idx → EReal) (E : S128.Idx → EReal) (g : ℕ) (hg : g < 8)
    (x : S16384x128.Idx → EReal) (tt : S128x128.Idx → EReal) (es : S1x128.Idx → EReal)
    (hx : ∀ (p : Fin 16384) (j : Fin 128), x (ix2 p j) = X (ix2 (Fin.ofNat 131072 (16384 * g + p.val)) j))
    (ht : ∀ r c : Fin 128, tt (ix2 r c) = T (row (16384 * g + (128 * c.val + r.val))))
    (he : ∀ j : Fin 128, es (ix2 (0 : Fin 1) j) = E (ix1 j)) (y : S1x1.Idx) :
    (gain (F := Ideal) x tt es y : EReal) = ∑ p : Fin 16384, rowTerm X T E (16384 * g + p.val) := by
  unfold gain
  rw [tcTotal_apply]
  have h1 := sum_mul 128 128 fun p => rowTerm X T E (16384 * g + p)
  refine Eq.trans ?_ h1.symm
  rw [Finset.sum_comm' (t' := Finset.univ) (s' := fun _ => Finset.univ) (by simp)]
  rw [Finset.sum_comm]
  conv_rhs => rw [Finset.sum_comm]
  refine Finset.sum_congr rfl fun r _ => ?_
  have h2 : ∀ j : Fin 128, (sums (F := Ideal) x es tt 128 le_rfl (ix2 r j) : EReal)
      = ∑ c : Fin 128, term (E (ix1 j)) (T (row (16384 * g + (128 * c.val + r.val)))) (X (ix2 (Fin.ofNat 131072 (16384 * g + (128 * c.val + r.val))) j)) := by
    intro j
    rw [sums_apply, Finset.sum_range]
    refine Finset.sum_congr rfl fun c _ => ?_
    have hc : Fin.ofNat 128 c.val = c := Fin.ext (Nat.mod_eq_of_lt c.isLt)
    have hp : (128 * c.val + r.val) % 16384 = 128 * c.val + r.val := by have := c.isLt; have := r.isLt; omega
    rw [hc, he, ht, hx]
    show term _ _ (X (ix2 (Fin.ofNat 131072 (16384 * g + (128 * c.val + r.val) % 16384)) j)) = _
    rw [hp]
  rw [Finset.sum_congr rfl fun j _ => h2 j, Finset.sum_comm]
  rfl

theorem coords_val : ∀ t : Fin cfg0.N, (grid0.coords t 0).val = t.val := by decide +kernel

section Region

variable (V : Dev nD → Valuation τ sig (Elt Ideal)) (d : Dev nD)

theorem block_x (t : Fin cfg0.N) (p : Fin 16384) (j : Fin 128) :
    iblk V d 0 t (ix2 p j) = V d (Proc.devRef .tc (main_arg0 : Ref sig .tc)) (ix2 (Fin.ofNat 131072 (16384 * t.val + p.val)) j) := by
  show V d (Proc.devRef .tc (main_arg0 : Ref sig .tc)) ((win0_0.rect t).emb (ix2 p j)) = _
  congr 1
  have := p.isLt
  have := t.isLt
  have hN : cfg0.N = 8 := N_0
  funext a
  apply Fin.ext
  match a with
  | ⟨0, _⟩ =>
    refine (Pipeline.Window.rect_emb_val win0_0 t (ix2 p j) 0).trans ?_
    show (BitVec.ofNat 32 (grid0.coords t 0).val).toNat * 16384 + p.val = (16384 * t.val + p.val) % 131072
    rw [coords_val, BitVec.toNat_ofNat]
    omega
  | ⟨1, _⟩ =>
    refine (Pipeline.Window.rect_emb_val win0_0 t (ix2 p j) 1).trans ?_
    show 0 * 128 + j.val = j.val
    omega

theorem block_t (t : Fin cfg0.N) (r c : Fin 128) :
    iblk V d 1 t (ix2 r c) = V d (Proc.devRef .tc (main_v5 : Ref sig .tc)) (ix2 r (Fin.ofNat 1024 (128 * t.val + c.val))) := by
  show V d (Proc.devRef .tc (main_v5 : Ref sig .tc)) ((win0_1.rect t).emb (ix2 r c)) = _
  congr 1
  have := c.isLt
  have := t.isLt
  have hN : cfg0.N = 8 := N_0
  funext a
  apply Fin.ext
  match a with
  | ⟨0, _⟩ =>
    refine (Pipeline.Window.rect_emb_val win0_1 t (ix2 r c) 0).trans ?_
    show 0 * 128 + r.val = r.val
    omega
  | ⟨1, _⟩ =>
    refine (Pipeline.Window.rect_emb_val win0_1 t (ix2 r c) 1).trans ?_
    show (BitVec.ofNat 32 (grid0.coords t 0).val).toNat * 128 + c.val = (128 * t.val + c.val) % 1024
    rw [coords_val, BitVec.toNat_ofNat]
    omega

theorem block_e (t : Fin cfg0.N) (j : Fin 128) :
    iblk V d 2 t (ix2 (0 : Fin 1) j) = V d (Proc.devRef .tc (main_v3 : Ref sig .tc)) (ix2 (0 : Fin 1) j) := by
  show V d (Proc.devRef .tc (main_v3 : Ref sig .tc)) ((win0_2.rect t).emb (ix2 (0 : Fin 1) j)) = _
  congr 1
  funext a
  apply Fin.ext
  match a with
  | ⟨0, _⟩ =>
    refine (Pipeline.Window.rect_emb_val win0_2 t (ix2 (0 : Fin 1) j) 0).trans ?_
    rfl
  | ⟨1, _⟩ =>
    refine (Pipeline.Window.rect_emb_val win0_2 t (ix2 (0 : Fin 1) j) 1).trans ?_
    show 0 * 128 + j.val = j.val
    omega

variable (X : S131072x128.Idx → EReal) (T : S131072.Idx → EReal) (E : S128.Idx → EReal)

/-- The TensorCore call's result: every row's terms added up. -/
theorem outs_total (hX : V d (Proc.devRef .tc (main_arg0 : Ref sig .tc)) = X)
    (hT : ∀ (r : Fin 128) (q : Fin 1024), V d (Proc.devRef .tc (main_v5 : Ref sig .tc)) (ix2 r q) = T (row (128 * q.val + r.val)))
    (hE : ∀ j : Fin 128, V d (Proc.devRef .tc (main_v3 : Ref sig .tc)) (ix2 (0 : Fin 1) j) = E (ix1 j)) (y : S1x1.Idx) :
    (outs V d 8 y : EReal) = ∑ n : Fin 131072, rowTerm X T E n.val := by
  have hN : cfg0.N = 8 := N_0
  have key : ∀ n ≤ 8, (outs V d n y : EReal) = ∑ g ∈ Finset.range n, ∑ p : Fin 16384, rowTerm X T E (16384 * g + p.val) := by
    intro n
    induction n with
    | zero => exact fun _ => bits_zero
    | succ n ih =>
      intro hn
      have hlt : n < cfg0.N := by omega
      have hg := gain_apply X T E n (by omega) (iblk V d 0 ⟨n, hlt⟩) (iblk V d 1 ⟨n, hlt⟩) (iblk V d 2 ⟨n, hlt⟩)
        (fun p j => by rw [block_x, hX])
        (fun r c => by
          rw [block_t, hT]
          have := c.isLt
          congr 2
          show 128 * ((128 * n + c.val) % 1024) + r.val = _
          omega)
        (fun j => by rw [block_e, hE]) y
      have hs : (start (F := Ideal) (grid0.coords ⟨n, hlt⟩) (outs V d n) y : EReal) = outs V d n y := by
        unfold start
        split
        · rename_i h1
          have h0 : n = 0 := by
            have : ∀ t : Fin cfg0.N, tcFirst (grid0.coords t) = 1#1 → t.val = 0 := by decide +kernel
            exact this ⟨n, hlt⟩ h1
          subst h0
          rfl
        · rfl
      rw [Finset.sum_range_succ, ← ih (by omega), ← hg, ← hs]
      exact congrFun (outs_succ V d ⟨n, hlt⟩) y
  rw [key 8 le_rfl, Finset.sum_range]
  exact (sum_mul 8 16384 (rowTerm X T E)).symm

end Region

end Cert.Proof.TcValue

end
-- ==== Proof.KernelValue.lean ====
module
public import proofs.«01_k».proof.Proof.TcValue
public import proofs.«01_k».proof.Proof.Result

@[expose] public section

noncomputable section

namespace Cert.Proof.KernelValue

open Cert.KernelIdeal Cert.KernelIdeal.Gen Cert.Proof.Base Cert.Proof.Tile Cert.Proof.TcRegion Cert.Proof.Launch Cert.Proof.Result
open Cert.Proof.Elem Cert.Proof.ScValue Cert.Proof.TcValue
open Idealize.ShloMosaic Idealize.ShloMosaic.TcCoe Idealize.ShloMosaic.ValueIdx
open Idealize.ShloMosaic.StableHlo (after)
open scoped BigOperators

variable (m : (ℓ : Loc nD τ sig) → Buf (Elt Ideal) ℓ) (d : Dev nD)

/-- The kernel's arguments. -/
abbrev A0 : S131072x128.Idx → EReal := m (d, Proc.devRef .tc (main_arg0 : Ref sig .tc))
abbrev A1 : S131072.Idx → BitVec 32 := m (d, Proc.devRef .tc (main_arg1 : Ref sig .tc))
abbrev A2 : S131072.Idx → EReal := m (d, Proc.devRef .tc (main_arg2 : Ref sig .tc))
abbrev A3 : S127.Idx → EReal := m (d, Proc.devRef .tc (main_arg3 : Ref sig .tc))

/-- The bins' lower edges: minus infinity, then the given edges. -/
def lower (ed : S127.Idx → EReal) : S128.Idx → EReal :=
  concatenate S128 0 [⟨S1, Host.negf (F := Ideal) (constant (F := Ideal) S1 .f32 0x7F800000#32)⟩, ⟨S127, ed⟩] concatenates_S1_S127_S128_d0

theorem lower_zero (ed : S127.Idx → EReal) : lower ed (ix1 (0 : Fin 128)) = ⊥ := by
  refine (concatenate_pair_apply_left 0 _ ed concatenates_S1_S127_S128_d0 (ix1 (0 : Fin 128)) rfl (ix1 (0 : Fin 1)) fun b => match b with | ⟨0, _⟩ => rfl).trans ?_
  show -(Ideal.ofBits .f32 0x7F800000#32) = ⊥
  rw [bits_inf, EReal.neg_top]

theorem lower_succ (ed : S127.Idx → EReal) (k : Fin 127) : lower ed (ix1 k.succ) = ed (ix1 k) :=
  concatenate_pair_apply_right 0 _ ed concatenates_S1_S127_S128_d0 (ix1 k.succ) rfl rfl (ix1 k)
    (fun b hb => absurd (match b with | ⟨0, _⟩ => rfl) hb) rfl

theorem V1_arg0 : V1 m d (Proc.devRef .tc (main_arg0 : Ref sig .tc)) = A0 m d :=
  StableHlo.after_of_forall_not_mem before _ (before_writes _ (by decide))

theorem V1_v0 : V1 m d (Proc.devRef .tc (main_v0 : Ref sig .tc)) = sitofp (F := Ideal) .f32 (A1 m d) := by
  show after before (V0 m d) _ = _
  unfold before
  after_results
  rfl

theorem V1_v3 : V1 m d (Proc.devRef .tc (main_v3 : Ref sig .tc)) = shapeCast S1x128 (lower (A3 m d)) shapeCasts_S128_S1x128 := by
  show after before (V0 m d) _ = _
  unfold before
  after_results
  rfl

theorem V1_v5 : V1 m d (Proc.devRef .tc (main_v5 : Ref sig .tc))
    = transpose S128x1024 [1, 0] (shapeCast S1024x128 (A2 m d) shapeCasts_S131072_S1024x128) transposes_S1024x128_S128x1024_1_0 := by
  show after before (V0 m d) _ = _
  unfold before
  after_results
  rfl

theorem times_apply (r : Fin 128) (q : Fin 1024) :
    transpose S128x1024 [1, 0] (shapeCast S1024x128 (A2 m d) shapeCasts_S131072_S1024x128) transposes_S1024x128_S128x1024_1_0 (ix2 r q)
      = A2 m d (row (128 * q.val + r.val)) := by
  refine (transpose_ix2_apply _ transposes_S1024x128_S128x1024_1_0 r q).trans ?_
  refine shapeCast_apply (A2 m d) shapeCasts_S131072_S1024x128 (ix2 q r) (row (128 * q.val + r.val)) ?_
  rw [Shape.rowMajor_val_two, Shape.rowMajor_val_one]
  have := q.isLt
  have := r.isLt
  show (128 * q.val + r.val) % 131072 = q.val * 128 + r.val
  omega

theorem outs_eq (y : S1x1.Idx) : (outs (V1 m) d 8 y : EReal) = ∑ n : Fin 131072, rowTerm (A0 m d) (A2 m d) (lower (A3 m d)) n.val :=
  outs_total (V1 m) d (A0 m d) (A2 m d) (lower (A3 m d)) (V1_arg0 m d)
    (fun r q => (congrFun (V1_v5 m d) _).trans (times_apply m d r q))
    (fun j => (congrFun (V1_v3 m d) _).trans (shapeCast_a_1a_apply _ _ _ _)) y

theorem Xv_eq : Xv m d = shapeCast S16777216 (A0 m d) shapeCasts_S131072x128_S16777216 := by
  unfold Xv V3
  show after flat (V2 m d) _ = _
  unfold flat
  after_results
  rw [V2_of m d main_arg0 (by decide), V1_arg0]
  rfl
theorem Tv_eq : Tv m d = A2 m d := kept m d main_arg2 (by decide) (by decide) (by decide) (by decide)
theorem Ev_eq : Ev m d = sitofp (F := Ideal) .f32 (A1 m d) :=
  (V3_of m d main_v0 (by decide)).trans ((V2_of m d main_v0 (by decide)).trans (V1_v0 m d))

/-- What row `n`'s event takes off: its element in the column of its time when the event is one. -/
def taken (X : S131072x128.Idx → EReal) (e : S131072.Idx → BitVec 32) (T : S131072.Idx → EReal) (n : ℕ) : EReal :=
  X (ix2 (Fin.ofNat 131072 n) ⟨(bin (F := Ideal) (T (row n))).toNat, Nat.lt_of_lt_of_eq (bin_lt _) rfl⟩) * (((e (row n)).toInt : ℝ) : EReal)

theorem part_eq (n : Fin 131072) : part (Xv m d) (Tv m d) (Ev m d) n.val = taken (A0 m d) (A1 m d) (A2 m d) n.val := by
  unfold part taken
  rw [Xv_eq, Tv_eq, Ev_eq]
  congr 1
  refine shapeCast_apply (A0 m d) shapeCasts_S131072x128_S16777216 _ _ ?_
  rw [Shape.rowMajor_val_two, Shape.rowMajor_val_one]
  have := n.isLt
  have := bin_lt (F := Ideal) (A2 m d (row n.val))
  show n.val % 131072 * 128 + (bin (F := Ideal) (A2 m d (row n.val))).toNat = (n.val * 128 + (bin (F := Ideal) (A2 m d (row n.val))).toNat) % 16777216
  omega

theorem V4_v6 : V4 m d (Proc.devRef .tc (main_v6 : Ref sig .tc)) = outs (V1 m) d 8 :=
  (V4_of_ne m d _ (by decide)).trans ((V3_of m d main_v6 (by decide)).trans (afterTc_out (V1 m) d))

/-- The kernel's result. -/
theorem result_eq : V5 m d (Proc.devRef .tc (main_v12 : Ref sig .tc)) = fun _ : S_.Idx =>
    Ideal.div ((∑ n : Fin 131072, rowTerm (A0 m d) (A2 m d) (lower (A3 m d)) n.val) - ∑ n : Fin 131072, taken (A0 m d) (A1 m d) (A2 m d) n.val)
      (Ideal.ofBits .f32 0x48000000#32) := by
  have h : V5 m d (Proc.devRef .tc (main_v12 : Ref sig .tc))
      = (Host.divf (F := Ideal) (φ := .f32) (subf (F := Ideal) (φ := .f32) (shapeCast S_ (V4 m d (Proc.devRef .tc (main_v6 : Ref sig .tc))) shapeCasts_S1x1_S_)
          (Host.reduceAdd (F := Ideal) (φ := .f32) (V4 m d o') (constant (F := Ideal) S_ .f32 0x00000000#32) reducesTo_S32x16_S_d0_1 h_S_))
          (constant (F := Ideal) S_ .f32 0x48000000#32) : S_.Idx → EReal) := by
    show after last (V4 m d) _ = _
    unfold last
    after_results
    rfl
  rw [h, V4_v6, V4_out]
  funext i
  refine (hostDivf_apply _ _ i).trans ?_
  refine congrArg (Ideal.div · _) ?_
  show (outs (V1 m) d 8 _ : EReal) - Host.reduceAdd (F := Ideal) (φ := .f32) (Sv m d) (constant (F := Ideal) S_ .f32 0x00000000#32) reducesTo_S32x16_S_d0_1 h_S_ i = _
  rw [outs_eq]
  refine congrArg (_ - ·) ?_
  refine (Ideal.hostReduceAdd_total reducesTo_S32x16_S_d0_1 (fun b => b.elim0) (Sv m d) _ i).trans ?_
  show Ideal.ofBits .f32 0x00000000#32 + _ = _
  rw [bits_zero, zero_add]
  refine (allSums_total (Xv m d) (Tv m d) (Ev m d)).trans ?_
  exact Finset.sum_congr rfl fun n _ => part_eq m d n

end Cert.Proof.KernelValue

end
-- ==== Proof.Rows.lean ====
module
public import proofs.«01_k».proof.Proof.RefValue
public import proofs.«01_k».proof.Proof.KernelValue

@[expose] public section

noncomputable section

namespace Cert.Proof.Rows

open Cert.Proof.Elem
open Idealize.ShloMosaic Idealize.ShloMosaic.ValueIdx
open scoped BigOperators

/-! ## One row's numbers -/

/-- The softplus of a row's elements up to column `b`, added up. -/
def spSum (f : ℕ → EReal) (b : ℕ) : ℝ := ∑ k ∈ Finset.range (b + 1), sp (f k)

theorem sum_coe (g : ℕ → ℝ) (m : ℕ) : ∑ k ∈ Finset.range m, (g k : EReal) = ((∑ k ∈ Finset.range m, g k : ℝ) : EReal) := by
  induction m with
  | zero => rfl
  | succ m ih => rw [Finset.sum_range_succ, ih, Finset.sum_range_succ, EReal.coe_add]

theorem sum_neg (g : ℕ → ℝ) (m : ℕ) : ∑ k ∈ Finset.range m, -(g k : EReal) = ((-∑ k ∈ Finset.range m, g k : ℝ) : EReal) := by
  rw [← Finset.sum_neg_distrib, ← sum_coe]
  exact Finset.sum_congr rfl fun k _ => (EReal.coe_neg _).symm

/-- The loss of a row whose event has not happened. -/
theorem alive (f : ℕ → EReal) (b : ℕ) : -(∑ k ∈ Finset.range (b + 1), -(sp (f k) : EReal)) = (spSum f b : EReal) := by
  rw [sum_neg (fun k => sp (f k)), ← EReal.coe_neg, neg_neg]
  rfl

/-- The loss of a row whose event has happened: the element in its bin comes off. -/
theorem dead (f : ℕ → EReal) (b : ℕ) (hf : f b ≤ ((30 : ℝ) : EReal)) :
    -((if 0 < b then ∑ k ∈ Finset.range (b - 1 + 1), -(sp (f k) : EReal) else 0) + -((sp (f b) : EReal) - f b)) = (spSum f b : EReal) - f b := by
  have h : (if 0 < b then ∑ k ∈ Finset.range (b - 1 + 1), -(sp (f k) : EReal) else 0) = ((-∑ k ∈ Finset.range b, sp (f k) : ℝ) : EReal) := by
    split
    · rw [sum_neg (fun k => sp (f k)), Nat.sub_add_cancel (by omega)]
    · obtain rfl : b = 0 := by omega
      simp
  have hs : spSum f b = (∑ k ∈ Finset.range b, sp (f k)) + sp (f b) := Finset.sum_range_succ _ _
  rw [h]
  rcases cases_le hf with hx | ⟨r, hx, -⟩
  · rw [hx, EReal.coe_sub_bot, EReal.coe_sub_bot, EReal.neg_top, EReal.add_bot, EReal.neg_bot]
  · rw [hs]
    generalize sp (f b) = s
    rw [hx, ← EReal.coe_sub, ← EReal.coe_sub, ← EReal.coe_neg, ← EReal.coe_add, ← EReal.coe_neg]
    congr 1
    ring

/-- The differences of two families added up: the difference of the sums, where nothing taken off is plus infinity. -/
theorem sum_sub {ι : Type*} (s : Finset ι) (f a : ι → EReal) (ha : ∀ i, a i ≠ ⊤) : (∑ i ∈ s, (f i - a i)) = (∑ i ∈ s, f i) - ∑ i ∈ s, a i := by
  classical
  have key : (∑ i ∈ s, (f i - a i)) = (∑ i ∈ s, f i) - ∑ i ∈ s, a i ∧ ∑ i ∈ s, a i ≠ ⊤ := by
    induction s using Finset.induction_on with
    | empty => exact ⟨by simp, by simp⟩
    | insert i s hi ih =>
      obtain ⟨ih, ht⟩ := ih
      rw [Finset.sum_insert hi, Finset.sum_insert hi, Finset.sum_insert hi, ih]
      refine ⟨?_, EReal.add_ne_top (ha i) ht⟩
      rw [sub_eq_add_neg, sub_eq_add_neg, sub_eq_add_neg, EReal.neg_add (.inr ht) (.inl (ha i)), sub_eq_add_neg, add_add_add_comm]
  exact key.1

/-- The kernel's masked terms of a row of time `r`, added up. -/
theorem masked (E : Cert.KernelIdeal.S128.Idx → EReal) (f : Fin 128 → EReal) (r : ℝ) (hf : ∀ j, f j ≤ ((30 : ℝ) : EReal)) (h0 : E (ix1 (0 : Fin 128)) = ⊥)
    (hE : ∀ k : Fin 127, E (ix1 k.succ) = ((k.val : ℝ) : EReal)) :
    ∑ j : Fin 128, TcValue.term (E (ix1 j)) (r : EReal) (f j) = (spSum (fun k => f (Fin.ofNat 128 k)) (below (r : EReal)) : EReal) := by
  have hm : ∀ j : Fin 128, E (ix1 j) < (r : EReal) ↔ j.val ≤ below (r : EReal) := by
    intro j
    refine Fin.cases ?_ (fun k => ?_) j
    · rw [h0]
      exact ⟨fun _ => Nat.zero_le _, fun _ => EReal.bot_lt_coe r⟩
    · rw [hE, edge_lt_iff k.isLt]
      exact Nat.lt_iff_add_one_le
  have ht : ∀ j : Fin 128, TcValue.term (E (ix1 j)) (r : EReal) (f j) = if j.val ≤ below (r : EReal) then (sp (f j) : EReal) else 0 := by
    intro j
    unfold TcValue.term
    rw [bits_neg_inf, bits_thirty]
    by_cases h : j.val ≤ below (r : EReal)
    · rw [if_pos h, ← kernel_sp (hf j)]
      show Ideal.log1p (Ideal.exp (min (Scalar.select (BitVec.ofBool (decide (E (ix1 j) < (r : EReal)))) (f j) ⊥) _)) = _
      rw [decide_eq_true ((hm j).2 h)]
      rfl
    · rw [if_neg h, ← kernel_sp_bot]
      show Ideal.log1p (Ideal.exp (min (Scalar.select (BitVec.ofBool (decide (E (ix1 j) < (r : EReal)))) (f j) ⊥) _)) = _
      rw [decide_eq_false fun q => h ((hm j).1 q)]
      rfl
  have hj : ∀ j : Fin 128, (if j.val ≤ below (r : EReal) then (sp (f j) : EReal) else 0)
      = (fun k : ℕ => if k ≤ below (r : EReal) then (sp (f (Fin.ofNat 128 k)) : EReal) else 0) j.val := by
    intro j
    have : Fin.ofNat 128 j.val = j := Fin.ext (Nat.mod_eq_of_lt j.isLt)
    show _ = if j.val ≤ below (r : EReal) then (sp (f (Fin.ofNat 128 j.val)) : EReal) else 0
    rw [this]
  have hb := below_lt (r : EReal)
  rw [Finset.sum_congr rfl fun j _ => (ht j).trans (hj j),
    Fin.sum_univ_eq_sum_range (fun k : ℕ => if k ≤ below (r : EReal) then (sp (f (Fin.ofNat 128 k)) : EReal) else 0) 128, ← Finset.sum_filter]
  unfold spSum
  rw [← sum_coe]
  refine Finset.sum_congr (Finset.ext fun k => ?_) fun _ _ => rfl
  rw [Finset.mem_filter, Finset.mem_range, Finset.mem_range]
  omega

end Cert.Proof.Rows

end
-- ==== Proof.Final.lean ====
module
public import proofs.«01_k».proof.Proof.Rows

@[expose] public section

noncomputable section

namespace Cert.Proof.Final

open Cert.Proof.Elem Cert.Proof.ScValue Cert.Proof.TcValue Cert.Proof.KernelValue Cert.Proof.RefStages Cert.Proof.RefValue Cert.Proof.Rows
open Idealize.ShloMosaic Idealize.ShloMosaic.ValueIdx Idealize.ShloMosaic.TcCoe Idealize.SL.Sem
open scoped BigOperators

/-! ## The arguments in range -/

/-- The side conditions of the precondition. -/
instance inRangeFacts : Cert.Pre_in_range.Facts where
  bcast_S_S131072x128 := by decide
  bcast_S_S131072 := by decide

/-- What the precondition says of the arguments. -/
structure InRange (x : Cert.ReferenceIdeal.S131072x128.Idx → EReal) (e : IVec Cert.ReferenceIdeal.S131072 32)
    (t : Cert.ReferenceIdeal.S131072.Idx → EReal) (ed : Cert.ReferenceIdeal.S127.Idx → EReal) : Prop where
  logit : ∀ (n : Fin 131072) (j : Fin 128), x (ix2 n j) ≤ ((30 : ℝ) : EReal)
  event : ∀ n : Fin 131072, e (ix1 n) = 0#32 ∨ e (ix1 n) = 1#32
  time : ∀ n : Fin 131072, ∃ r : ℝ, t (ix1 n) = r ∧ r ≤ 2147483520
  edge : ∀ k : Fin 127, ed (ix1 k) = ((k.val : ℝ) : EReal)

theorem of_ofBool {p : Prop} [Decidable p] (h : BitVec.ofBool (decide p) = 1#1) : p := by
  by_contra hp
  rw [decide_eq_false hp] at h
  exact absurd h (by decide)

theorem and_one : ∀ a b : BitVec 1, IntOp.andi a b = 1#1 → a = 1#1 ∧ b = 1#1 := by decide

theorem event_of (w : BitVec 32) (h : IntOp.andi (IntOp.cmpi .sge w 0#32) (IntOp.cmpi .sle w 1#32) = 1#1) : w = 0#32 ∨ w = 1#32 := by
  obtain ⟨h1, h2⟩ := and_one _ _ h
  have h1' : (0#32).sle w = true := by
    by_contra q
    have : IntOp.cmpi .sge w 0#32 = BitVec.ofBool ((0#32).sle w) := rfl
    rw [this, Bool.eq_false_of_not_eq_true q] at h1
    exact absurd h1 (by decide)
  have h2' : w.sle 1#32 = true := by
    by_contra q
    have : IntOp.cmpi .sle w 1#32 = BitVec.ofBool (w.sle 1#32) := rfl
    rw [this, Bool.eq_false_of_not_eq_true q] at h2
    exact absurd h2 (by decide)
  rw [BitVec.sle_iff_toInt_le] at h1' h2'
  have e0 : (0#32 : BitVec 32).toInt = 0 := by decide
  have e1 : (1#32 : BitVec 32).toInt = 1 := by decide
  rw [e0] at h1'
  rw [e1] at h2'
  rcases (by omega : w.toInt = 0 ∨ w.toInt = 1) with h | h
  · exact .inl (BitVec.eq_of_toInt_eq (h.trans e0.symm))
  · exact .inr (BitVec.eq_of_toInt_eq (h.trans e1.symm))

theorem inRange_of (x : Cert.ReferenceIdeal.S131072x128.Idx → EReal) (e : IVec Cert.ReferenceIdeal.S131072 32)
    (t : Cert.ReferenceIdeal.S131072.Idx → EReal) (ed : Cert.ReferenceIdeal.S127.Idx → EReal)
    (h : (Cert.Pre_in_range.fn (F := Ideal) x e t ed).1 = (fun _ => 1#1) ∧ (Cert.Pre_in_range.fn (F := Ideal) x e t ed).2.1 = (fun _ => 1#1)
      ∧ (Cert.Pre_in_range.fn (F := Ideal) x e t ed).2.2.1 = (fun _ => 1#1) ∧ (Cert.Pre_in_range.fn (F := Ideal) x e t ed).2.2.2 = (fun _ => 1#1)) :
    InRange x e t ed where
  logit n j := by
    have h1 : BitVec.ofBool (decide (x (ix2 n j) ≤ Ideal.ofBits .f32 0x41F00000#32)) = 1#1 := congrFun h.1 (ix2 n j)
    rw [← bits_thirty]
    exact of_ofBool h1
  event n := event_of _ (congrFun h.2.1 (ix1 n))
  time n := by
    obtain ⟨h1, h2⟩ := and_one _ _ (congrFun h.2.2.1 (ix1 n))
    have h1' : BitVec.ofBool (decide (Ideal.ofBits .f32 0xFF800000#32 < t (ix1 n))) = 1#1 := h1
    have h2' : BitVec.ofBool (decide (t (ix1 n) ≤ Ideal.ofBits .f32 0x4EFFFFFF#32)) = 1#1 := h2
    have h3 := of_ofBool h1'
    have h4 := of_ofBool h2'
    rw [bits_neg_inf] at h3
    rw [bits_big] at h4
    exact time_real h3 h4
  edge k := by
    have h1 : BitVec.ofBool (decide (ed (ix1 k) = (((BitVec.ofNat 32 k.val).toInt : ℝ) : EReal))) = 1#1 := congrFun h.2.2.2 (ix1 k)
    have hk : ∀ k : Fin 127, (BitVec.ofNat 32 k.val).toInt = (k.val : ℤ) := by decide
    rw [of_ofBool h1, hk]
    rfl

/-! ## The results -/

variable (x : Cert.ReferenceIdeal.S131072x128.Idx → EReal) (e : IVec Cert.ReferenceIdeal.S131072 32)
  (t : Cert.ReferenceIdeal.S131072.Idx → EReal) (ed : Cert.ReferenceIdeal.S127.Idx → EReal)

theorem row_val (n : Fin 131072) : Fin.ofNat 131072 n.val = n := Fin.ext (Nat.mod_eq_of_lt n.isLt)

theorem taken_at (n : Fin 131072) : taken x e t n.val
    = x (ix2 n ⟨(Tile.bin (F := Ideal) (t (ix1 n))).toNat, Nat.lt_of_lt_of_eq (Tile.bin_lt _) rfl⟩) * (((e (ix1 n)).toInt : ℝ) : EReal) := by
  have key : ∀ k : Fin 131072, k = n →
      x (ix2 k ⟨(Tile.bin (F := Ideal) (t (ix1 k))).toNat, Nat.lt_of_lt_of_eq (Tile.bin_lt _) rfl⟩) * (((e (ix1 k)).toInt : ℝ) : EReal)
        = x (ix2 n ⟨(Tile.bin (F := Ideal) (t (ix1 n))).toNat, Nat.lt_of_lt_of_eq (Tile.bin_lt _) rfl⟩) * (((e (ix1 n)).toInt : ℝ) : EReal) := by
    rintro _ rfl
    rfl
  exact key _ (row_val n)

/-- A row's loss: the softplus of its elements up to its bin, less the element in its bin when its event is one. -/
theorem row_loss (h : InRange x e t ed) (n : Fin 131072) :
    (losses (F := Ideal) (cum (Host.negf (soft (F := Ideal) (Host.negf (Host.negf x))))) (Host.negf (soft (F := Ideal) (Host.negf x))) e
        (bins (F := Ideal) ed t) (ix1 n) : EReal)
      = rowTerm x t (lower ed) n.val - taken x e t n.val := by
  obtain ⟨r, hr, hr2⟩ := h.time n
  have hb : ∀ n : Fin 131072, bins (F := Ideal) ed t (ix1 n) = word ⟨below (t (ix1 n)), below_lt _⟩ := by
    intro n
    obtain ⟨r, hr, -⟩ := h.time n
    exact (bins_apply ed t h.edge n).resolve_right fun q => q r hr
  have hx : ∀ j : Fin 128, x (ix2 n j) ≤ ((30 : ℝ) : EReal) := h.logit n
  have hrow : rowTerm x t (lower ed) n.val = (spSum (fun k => x (ix2 n (Fin.ofNat 128 k))) (below (t (ix1 n))) : EReal) := by
    unfold rowTerm row
    rw [row_val, hr]
    exact masked (lower ed) (fun j => x (ix2 n j)) r hx (lower_zero ed) fun k => (lower_succ ed k).trans (h.edge k)
  have hcol : Fin.ofNat 128 (below (t (ix1 n))) = ⟨below (t (ix1 n)), below_lt _⟩ := Fin.ext (Nat.mod_eq_of_lt (below_lt _))
  have htake : taken x e t n.val = x (ix2 n (Fin.ofNat 128 (below (t (ix1 n))))) * (((e (ix1 n)).toInt : ℝ) : EReal) := by
    rw [taken_at, hcol]
    have : (⟨(Tile.bin (F := Ideal) (t (ix1 n))).toNat, Nat.lt_of_lt_of_eq (Tile.bin_lt _) rfl⟩ : Fin 128) = ⟨below (t (ix1 n)), below_lt _⟩ :=
      Fin.ext (by show (Tile.bin (F := Ideal) (t (ix1 n))).toNat = below (t (ix1 n)); rw [hr]; exact bin_eq hr2)
    rw [this]
  have hC : ∀ j : Fin 128, (cum (F := Ideal) (Host.negf (soft (Host.negf (Host.negf x)))) (ix2 n j) : EReal)
      = ∑ k ∈ Finset.range (j.val + 1), -(sp (x (ix2 n (Fin.ofNat 128 k))) : EReal) := by
    intro j
    rw [cum_at]
    refine Finset.sum_congr rfl fun k _ => ?_
    show -(soft (F := Ideal) (Host.negf (Host.negf x)) (ix2 n (Fin.ofNat 128 k)) : EReal) = _
    rw [soft_apply]
    exact congrArg (-·) (rsp_neg_neg (hx _))
  have hH : ∀ j : Fin 128, (Host.negf (F := Ideal) (soft (F := Ideal) (Host.negf x)) (ix2 n j) : EReal) = -((sp (x (ix2 n j)) : EReal) - x (ix2 n j)) := by
    intro j
    show -(soft (F := Ideal) (Host.negf x) (ix2 n j) : EReal) = _
    rw [soft_apply]
    exact congrArg (-·) (rsp_neg (hx _))
  rw [losses_apply _ _ e (bins (F := Ideal) ed t) (fun n => ⟨below (t (ix1 n)), below_lt _⟩) hb n, hC, hC, hH, hrow, htake]
  rcases h.event n with he | he
  · rw [he]
    have e1 : Scalar.select (IntOp.cmpi .eq (0#32 : BitVec 32) 1#32) = fun (_ y : EReal) => y := rfl
    rw [e1]
    simp only [BitVec.toInt_zero, Int.cast_zero, EReal.coe_zero, mul_zero, sub_zero]
    exact alive (fun k => x (ix2 n (Fin.ofNat 128 k))) _
  · rw [he]
    have e1 : Scalar.select (IntOp.cmpi .eq (1#32 : BitVec 32) 1#32) = fun (y _ : EReal) => y := rfl
    have e2 : ((1#32 : BitVec 32).toInt : ℝ) = 1 := by
      have : (1#32 : BitVec 32).toInt = 1 := by decide
      rw [this, Int.cast_one]
    have hd := dead (fun k => x (ix2 n (Fin.ofNat 128 k))) (below (t (ix1 n))) (hx _)
    beta_reduce at hd
    rw [hcol] at hd
    rw [e1, e2, EReal.coe_one, mul_one, hcol]
    exact hd

theorem taken_ne_top (h : InRange x e t ed) (n : Fin 131072) : taken x e t n.val ≠ ⊤ := by
  rw [taken_at]
  have hx := h.logit n ⟨(Tile.bin (F := Ideal) (t (ix1 n))).toNat, Nat.lt_of_lt_of_eq (Tile.bin_lt _) rfl⟩
  generalize x (ix2 n ⟨(Tile.bin (F := Ideal) (t (ix1 n))).toNat, Nat.lt_of_lt_of_eq (Tile.bin_lt _) rfl⟩) = y at hx
  have hy : y ≠ ⊤ := fun q => absurd (q ▸ hx) (not_le.2 (EReal.coe_lt_top _))
  rcases h.event n with he | he
  · rw [he, BitVec.toInt_zero, Int.cast_zero, EReal.coe_zero, mul_zero]
    exact EReal.zero_ne_top
  · have e2 : ((1#32 : BitVec 32).toInt : ℝ) = 1 := by
      have : (1#32 : BitVec 32).toInt = 1 := by decide
      rw [this, Int.cast_one]
    rw [he, e2, EReal.coe_one, mul_one]
    exact hy

theorem div_sub {R : ℕ} (l f a : Fin R → EReal) (c : EReal) (hl : ∀ n, l n = f n - a n) (ha : ∀ n, a n ≠ ⊤) :
    Ideal.div (∑ n, l n) c = Ideal.div ((∑ n, f n) - ∑ n, a n) c := by
  rw [← sum_sub Finset.univ f a ha, Finset.sum_congr rfl fun n _ => hl n]

/-- The reference's value is the kernel's. -/
theorem value_eq (h : InRange x e t ed) : value (F := Ideal) x e t ed = fun _ =>
    Ideal.div ((∑ n : Fin 131072, rowTerm x t (lower ed) n.val) - ∑ n : Fin 131072, taken x e t n.val) (Ideal.ofBits .f32 0x48000000#32) := by
  funext i
  unfold value
  exact (mean_apply _ i).trans (div_sub _ (fun n => rowTerm x t (lower ed) n.val) (fun n => taken x e t n.val) _ (row_loss x e t ed h) (taken_ne_top x e t ed h))

/-! ## The claim -/

theorem algebraic : Cert.algebraic_KernelIdeal_ReferenceIdeal_pre_in_range := fun m g m' g' hpre hargs => by
  refine ⟨fun c => Launch.V5 m c (Proc.devRef .tc (Cert.KernelIdeal.main_v12 : Ref Cert.KernelIdeal.sig .tc)), ?_, ?_⟩
  · exact (θ_run _ _ _).mono (fun _ h c => ⟨h.1 c _ (Pipeline.devRef_mem_ucRefs rfl), (h.1 c _ (Pipeline.devRef_mem_ucRefs rfl)).trans (Result.V5_arg0 m c),
      (h.1 c _ (Pipeline.devRef_mem_ucRefs rfl)).trans (Result.V5_arg1 m c), (h.1 c _ (Pipeline.devRef_mem_ucRefs rfl)).trans (Result.V5_arg2 m c),
      (h.1 c _ (Pipeline.devRef_mem_ucRefs rfl)).trans (Result.V5_arg3 m c)⟩) (Launch.run_main (F := Ideal) m g)
  · refine (θ_run _ _ _).mono (fun _ h c => ⟨(h c).1.trans ?_, (h c).2⟩) (Cert.ReferenceIdeal.Value.run (F := Ideal) m' g')
    obtain ⟨h0, h1, h2, h3⟩ := hargs c
    refine (res_eq (F := Ideal) m' c).trans ?_
    rw [h0, h1, h2, h3]
    exact (value_eq _ _ _ _ (inRange_of _ _ _ _ (hpre c))).trans (result_eq m c).symm

end Cert.Proof.Final

end
-- ==== Proof.lean ====
/- The proof of the certificate's claims; the modules under `Proof/` do the work. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result
public import proofs.«01_k».proof.Proof.RefRun
public import proofs.«01_k».proof.Proof.Final
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Final.inRangeFacts, Result.frameBits, Result.frameIdeal, fun m g _ => Result.run_args m g, RefRun.frame,
  fun m g _ => RefRun.frame m g trivial, trivial, Final.algebraic⟩

end Cert.Proof

end
